-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neps_sq" .f32 0x179ABE15#32 ((5316911940649 / 5316911983139663491615228241121378304 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_7) = v0 c
          ∧ r.2.mem ((c.tc : Thread Cert.ReferenceIdeal.nD Cert.ReferenceIdeal.τ).loc Cert.ReferenceIdeal.main_v19_8) = v1 c
          ∧ r.2.mem ((c.tc : Thread Cert.ReferenceIdeal.nD Cert.ReferenceIdeal.τ).loc Cert.ReferenceIdeal.main_v19_9) = v2 c
          ∧ r.2.mem ((c.tc : Thread Cert.ReferenceIdeal.nD Cert.ReferenceIdeal.τ).loc Cert.ReferenceIdeal.main_v19_10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  reducesTo_S256_S_d0 : S256.ReducesTo [0] S_
  h_S_ : 0 < S_.numel

variable [Facts]

def fn_norm {F : FTy → Type} [FloatOps F] (arg0 : FVec F S256 .f32) : FVec F S_ .f32 :=
  let v0 : FVec F S256 .f32 := mulf arg0 arg0
  let cst : FVec F S_ .f32 := constant S_ .f32 0x00000000#32
  let v1 : FVec F S_ .f32 := (fun x v => Host.reduceAdd x v reducesTo_S256_S_d0 h_S_) v0 cst
  let v2 : FVec F S_ .f32 := Host.sqrt v1
  v2

def fn {F : FTy → Type} [FloatOps F] (main_arg0 : FVec F S65536x256 .f32) (main_arg1 : FVec F S256x256 .f32) (main_arg2 : FVec F S256 .f32) (main_arg3 : FVec F S256x256 .f32) (main_arg4 : FVec F S256 .f32) (main_arg5 : FVec F S256 .f32) (main_arg6 : FVec F S256 .f32) (main_arg7 : FVec F S256 .f32) : IVec S_ 1 × IVec S_ 1 × IVec S_ 1 × IVec S_ 1 × IVec S_ 1 × IVec S_ 1 :=
  let main_v0 : FVec F S_ .f32 := fn_norm (F := F) main_arg5
  let main_v1 : FVec F S_ .f32 := fn_norm (F := F) main_arg6
  let main_v2 : FVec F S_ .f32 := fn_norm (F := F) main_arg7
  let main_cst : FVec F S_ .f32 := constant S_ .f32 0x7F800000#32
  let main_v3 : IVec S_ 1 := cmpf .olt main_v0 main_cst
  let main_cst_0 : FVec F S_ .f32 := constant S_ .f32 0x7F800000#32
  let main_v4 : IVec S_ 1 := cmpf .olt main_v1 main_cst_0
  let main_cst_1 : FVec F S_ .f32 := constant S_ .f32 0x7F800000#32
  let main_v5 : IVec S_ 1 := cmpf .olt main_v2 main_cst_1
  let main_cst_2 : FVec F S_ .f32 := constant S_ .f32 0x2B8CBCCC#32
  let main_v6 : IVec S_ 1 := cmpf .oge main_v0 main_cst_2
  let main_cst_3 : FVec F S_ .f32 := constant S_ .f32 0x2B8CBCCC#32
  let main_v7 : IVec S_ 1 := cmpf .oge main_v1 main_cst_3
  let main_cst_4 : FVec F S_ .f32 := constant S_ .f32 0x2B8CBCCC#32
  let main_v8 : IVec S_ 1 := cmpf .oge main_v2 main_cst_4
  (main_v3, main_v4, main_v5, main_v6, main_v7, main_v8)
-- ==== Kernel.lean ====
abbrev S65536x256 : Shape := ⟨2, ![65536, 256]⟩
abbrev S256x256 : Shape := ⟨2, ![256, 256]⟩
abbrev S256 : Shape := ⟨1, ![256]⟩
abbrev S1x256 : Shape := ⟨2, ![1, 256]⟩
abbrev S3x256 : Shape := ⟨2, ![3, 256]⟩
abbrev S256x3 : Shape := ⟨2, ![256, 3]⟩
abbrev S256x259 : Shape := ⟨2, ![256, 259]⟩
abbrev S6x3x65536 : Shape := ⟨3, ![6, 3, 65536]⟩
abbrev S2048x256 : Shape := ⟨2, ![2048, 256]⟩
abbrev S6x3x2048 : Shape := ⟨3, ![6, 3, 2048]⟩
abbrev S3 : Shape := ⟨1, ![3]⟩
abbrev S3x1 : Shape := ⟨2, ![3, 1]⟩
abbrev S1x3 : Shape := ⟨2, ![1, 3]⟩
abbrev S2048 : Shape := ⟨1, ![2048]⟩
abbrev S2048x1 : Shape := ⟨2, ![2048, 1]⟩
abbrev S2048x259 : Shape := ⟨2, ![2048, 259]⟩
abbrev S2048x3 : Shape := ⟨2, ![2048, 3]⟩
abbrev S3x2048 : Shape := ⟨2, ![3, 2048]⟩
abbrev S1x3x2048 : Shape := ⟨3, ![1, 3, 2048]⟩
abbrev S6x65536x3 : Shape := ⟨3, ![6, 65536, 3]⟩

abbrev nBuf : Space → Nat
  | .hbm => 25
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S3x256, .f32⟩
  | .hbm, ⟨12, _⟩ => ⟨S256x256, .f32⟩
  | .hbm, ⟨13, _⟩ => ⟨S256x3, .f32⟩
  | .hbm, ⟨14, _⟩ => ⟨S256x259, .f32⟩
  | .hbm, ⟨15, _⟩ => ⟨S1x256, .f32⟩
  | .hbm, ⟨16, _⟩ => ⟨S1x256, .f32⟩
  | .hbm, ⟨17, _⟩ => ⟨S256x256, .f32⟩
  | .hbm, ⟨18, _⟩ => ⟨S65536x256, .f32⟩
  | .hbm, ⟨19, _⟩ => ⟨S6x3x65536, .f32⟩
  | .hbm, ⟨20, _⟩ => ⟨S6x3x65536, .f32⟩
  | .hbm, ⟨21, _⟩ => ⟨S6x3x65536, .f32⟩
  | .hbm, ⟨22, _⟩ => ⟨S6x65536x3, .f32⟩
  | .hbm, ⟨23, _⟩ => ⟨S6x65536x3, .f32⟩
  | .hbm, ⟨24, _⟩ => ⟨S6x65536x3, .f32⟩
  | .local _ .vmem, ⟨0, _⟩ => ⟨S2048x256, .f32⟩
  | .local _ .vmem, ⟨1, _⟩ => ⟨S2048x256, .f32⟩
  | .local _ .vmem, ⟨2, _⟩ => ⟨S256x259, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S3x256, .f32⟩
  | .local _ .vmem, ⟨7, _⟩ => ⟨S2048x256, .f32⟩
  | .local _ .vmem, ⟨8, _⟩ => ⟨S2048x256, .f32⟩
  | .local _ .vmem, ⟨9, _⟩ => ⟨S6x3x2048, .f32⟩
  | .local _ .vmem, ⟨10, _⟩ => ⟨S6x3x2048, .f32⟩
  | .local _ .vmem, ⟨11, _⟩ => ⟨S6x3x2048, .f32⟩
  | .local _ .vmem, ⟨12, _⟩ => ⟨S6x3x2048, .f32⟩
  | .local _ .vmem, ⟨13, _⟩ => ⟨S6x3x2048, .f32⟩
  | .local _ .vmem, ⟨14, _⟩ => ⟨S6x3x2048, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x259 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x3x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x3x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x3x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "neps_sq" => some ((5316911940649 / 5316911983139663491615228241121378304 : ℝ) : EReal)
  | _ => none
-- ==== ReferenceIdeal.lean ====
abbrev S65536x256 : Shape := ⟨2, ![65536, 256]⟩
abbrev S256x256 : Shape := ⟨2, ![256, 256]⟩
abbrev S256 : Shape := ⟨1, ![256]⟩
abbrev S3 : Shape := ⟨1, ![3]⟩
abbrev S_ : Shape := ⟨0, ![]⟩
abbrev S1 : Shape := ⟨1, ![1]⟩
abbrev S1x256 : Shape := ⟨2, ![1, 256]⟩
abbrev S3x256 : Shape := ⟨2, ![3, 256]⟩
abbrev S6x65536x3 : Shape := ⟨3, ![6, 65536, 3]⟩
abbrev S65536 : Shape := ⟨1, ![65536]⟩
abbrev S65536x1 : Shape := ⟨2, ![65536, 1]⟩
abbrev S65536x3 : Shape := ⟨2, ![65536, 3]⟩
abbrev S65536x1x256 : Shape := ⟨3, ![65536, 1, 256]⟩
abbrev S1x3x256 : Shape := ⟨3, ![1, 3, 256]⟩
abbrev S65536x3x256 : Shape := ⟨3, ![65536, 3, 256]⟩
abbrev S65536x3x1 : Shape := ⟨3, ![65536, 3, 1]⟩
abbrev S1x3 : Shape := ⟨2, ![1, 3]⟩
abbrev S1x65536x3 : Shape := ⟨3, ![1, 65536, 3]⟩

abbrev nBuf : Space → Nat
  | .hbm => 145
  | .vmem => 0
  | .smem => 0
  | _ => 0

abbrev hbmTy0_0 (i : Nat) : BufTy := match i % 128 with
  | 0 => ⟨S65536x256, .f32⟩
  | 1 => ⟨S256x256, .f32⟩
  | 2 => ⟨S256, .f32⟩
  | 3 => ⟨S256x256, .f32⟩
  | 4 => ⟨S256, .f32⟩
  | 5 => ⟨S256, .f32⟩
  | 6 => ⟨S256, .f32⟩
  | 7 => ⟨S256, .f32⟩
  | 8 => ⟨S3, .f32⟩
  | 9 => ⟨S256, .f32⟩
  | 10 => ⟨S_, .f32⟩
  | 11 => ⟨S_, .f32⟩
  | 12 => ⟨S1, .f32⟩
  | 13 => ⟨S1, .f32⟩
  | 14 => ⟨S_, .f32⟩
  | 15 => ⟨S_, .f32⟩
  | 16 => ⟨S1, .f32⟩
  | 17 => ⟨S1, .f32⟩
  | 18 => ⟨S256, .f32⟩
  | 19 => ⟨S256, .f32⟩
  | 20 => ⟨S256, .f32⟩
  | 21 => ⟨S_, .f32⟩
  | 22 => ⟨S_, .f32⟩
  | 23 => ⟨S1, .f32⟩
  | 24 => ⟨S1, .f32⟩
  | 25 => ⟨S_, .f32⟩
  | 26 => ⟨S_, .f32⟩
  | 27 => ⟨S1, .f32⟩
  | 28 => ⟨S1, .f32⟩
  | 29 => ⟨S256, .f32⟩
  | 30 => ⟨S256, .f32⟩
  | 31 => ⟨S256, .f32⟩
  | 32 => ⟨S_, .f32⟩
  | 33 => ⟨S_, .f32⟩
  | 34 => ⟨S1, .f32⟩
  | 35 => ⟨S1, .f32⟩
  | 36 => ⟨S_, .f32⟩
  | 37 => ⟨S_, .f32⟩
  | 38 => ⟨S1, .f32⟩
  | 39 => ⟨S1, .f32⟩
  | 40 => ⟨S256, .f32⟩
  | 41 => ⟨S256, .f32⟩
  | 42 => ⟨S1x256, .f32⟩
  | 43 => ⟨S1x256, .f32⟩
  | 44 => ⟨S1x256, .f32⟩
  | 45 => ⟨S3x256, .f32⟩
  | 46 => ⟨S_, .f32⟩
  | 47 => ⟨S6x65536x3, .f32⟩
  | 48 => ⟨S_, .f32⟩
  | 49 => ⟨S6x65536x3, .f32⟩
  | 50 => ⟨S_, .f32⟩
  | 51 => ⟨S6x65536x3, .f32⟩
  | 52 => ⟨S_, .i32⟩
  | 53 => ⟨S3x256, .f32⟩
  | 54 => ⟨S3, .f32⟩
  | 55 => ⟨S256x256, .f32⟩
  | 56 => ⟨S256, .f32⟩
  | 57 => ⟨S256x256, .f32⟩
  | 58 => ⟨S256, .f32⟩
  | 59 => ⟨S_, .i32⟩
  | 60 => ⟨S65536x256, .f32⟩
  | 61 => ⟨S6x65536x3, .f32⟩
  | 62 => ⟨S6x65536x3, .f32⟩
  | 63 => ⟨S6x65536x3, .f32⟩
  | 64 => ⟨S_, .i32⟩
  | 65 => ⟨S_, .i1⟩
  | 66 => ⟨S65536x256, .f32⟩
  | 67 => ⟨S_, .f32⟩
  | 68 => ⟨S65536, .f32⟩
  | 69 => ⟨S65536x1, .f32⟩
  | 70 => ⟨S65536x1, .f32⟩
  | 71 => ⟨S_, .f32⟩
  | 72 => ⟨S_, .f32⟩
  | 73 => ⟨S65536x1, .f32⟩
  | 74 => ⟨S65536x1, .f32⟩
  | 75 => ⟨S65536x256, .f32⟩
  | 76 => ⟨S65536x256, .f32⟩
  | 77 => ⟨S65536x3, .f32⟩
  | 78 => ⟨S_, .f32⟩
  | 79 => ⟨S65536x3, .f32⟩
  | 80 => ⟨S65536x3, .f32⟩
  | 81 => ⟨S65536x3, .f32⟩
  | 82 => ⟨S65536x1x256, .f32⟩
  | 83 => ⟨S1x3x256, .f32⟩
  | 84 => ⟨S65536x3x256, .f32⟩
  | 85 => ⟨S65536x3x256, .f32⟩
  | 86 => ⟨S65536x3x256, .f32⟩
  | 87 => ⟨S65536x3x256, .f32⟩
  | 88 => ⟨S_, .f32⟩
  | 89 => ⟨S65536x3, .f32⟩
  | 90 => ⟨S65536x3x1, .f32⟩
  | 91 => ⟨S65536x3x1, .f32⟩
  | 92 => ⟨S_, .f32⟩
  | 93 => ⟨S_, .f32⟩
  | 94 => ⟨S65536x3x1, .f32⟩
  | 95 => ⟨S65536x3x1, .f32⟩
  | 96 => ⟨S65536x3x256, .f32⟩
  | 97 => ⟨S65536x3x256, .f32⟩
  | 98 => ⟨S3, .f32⟩
  | 99 => ⟨S1x3, .f32⟩
  | 100 => ⟨S65536x3, .f32⟩
  | 101 => ⟨S65536x3, .f32⟩
  | 102 => ⟨S65536x256, .f32⟩
  | 103 => ⟨S256x256, .f32⟩
  | 104 => ⟨S65536x256, .f32⟩
  | 105 => ⟨S1x256, .f32⟩
  | 106 => ⟨S65536x256, .f32⟩
  | 107 => ⟨S65536x256, .f32⟩
  | 108 => ⟨S65536x256, .f32⟩
  | 109 => ⟨S256x256, .f32⟩
  | 110 => ⟨S65536x256, .f32⟩
  | 111 => ⟨S1x256, .f32⟩
  | 112 => ⟨S65536x256, .f32⟩
  | 113 => ⟨S65536x256, .f32⟩
  | 114 => ⟨S65536x256, .f32⟩
  | 115 => ⟨S65536x256, .f32⟩
  | 116 => ⟨S65536x256, .f32⟩
  | 117 => ⟨S_, .f32⟩
  | 118 => ⟨S65536, .f32⟩
  | 119 => ⟨S65536x1, .f32⟩
  | 120 => ⟨S65536x1, .f32⟩
  | 121 => ⟨S_, .f32⟩
  | 122 => ⟨S65536x1, .f32⟩
  | 123 => ⟨S65536x1, .i1⟩
  | 124 => ⟨S_, .f32⟩
  | 125 => ⟨S65536x1, .f32⟩
  | 126 => ⟨S65536x1, .f32⟩
  | 127 => ⟨S65536x256, .f32⟩
  | _ => ⟨S65536x256, .f32⟩

abbrev hbmTy0_1 (i : Nat) : BufTy := match i % 128 with
  | 0 => ⟨S65536x256, .f32⟩
  | 1 => ⟨S65536x256, .i1⟩
  | 2 => ⟨S65536x256, .f32⟩
  | 3 => ⟨S1x65536x3, .f32⟩
  | 4 => ⟨S_, .i32⟩
  | 5 => ⟨S_, .i32⟩
  | 6 => ⟨S6x65536x3, .f32⟩
  | 7 => ⟨S1x65536x3, .f32⟩
  | 8 => ⟨S_, .i32⟩
  | 9 => ⟨S_, .i32⟩
  | 10 => ⟨S6x65536x3, .f32⟩
  | 11 => ⟨S1x65536x3, .f32⟩
  | 12 => ⟨S_, .i32⟩
  | 13 => ⟨S_, .i32⟩
  | 14 => ⟨S6x65536x3, .f32⟩
  | 15 => ⟨S_, .i32⟩
  | 16 => ⟨S_, .i32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call2_v0 : Ref sig .tc := ⟨.hbm, 20, rfl⟩
abbrev main_call2_cst : Ref sig .tc := ⟨.hbm, 21, rfl⟩
abbrev main_call2_v1 : Ref sig .tc := ⟨.hbm, 22, rfl⟩
abbrev main_call2_v2 : Ref sig .tc := ⟨.hbm, 23, rfl⟩
abbrev main_v4 : Ref sig .tc := ⟨.hbm, 24, rfl⟩
abbrev main_cst_1 : Ref sig .tc := ⟨.hbm, 25, rfl⟩
abbrev main_call3_v0 : Ref sig .tc := ⟨.hbm, 26, rfl⟩
abbrev main_call3_v1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call4_v0 : Ref sig .tc := ⟨.hbm, 31, rfl⟩
abbrev main_call4_cst : Ref sig .tc := ⟨.hbm, 32, rfl⟩
abbrev main_call4_v1 : Ref sig .tc := ⟨.hbm, 33, rfl⟩
abbrev main_call4_v2 : Ref sig .tc := ⟨.hbm, 34, rfl⟩
abbrev main_v8 : Ref sig .tc := ⟨.hbm, 35, rfl⟩
abbrev main_cst_2 : Ref sig .tc := ⟨.hbm, 36, rfl⟩
abbrev main_call5_v0 : Ref sig .tc := ⟨.hbm, 37, rfl⟩
abbrev main_call5_v1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_cst_5 : Ref sig .tc := ⟨.hbm, 50, rfl⟩
abbrev main_v18 : Ref sig .tc := ⟨.hbm, 51, rfl⟩
abbrev main_c : Ref sig .tc := ⟨.hbm, 52, rfl⟩
abbrev main_v19_0 : Ref sig .tc := ⟨.hbm, 53, rfl⟩
abbrev main_v19_1 : Ref sig .tc := ⟨.hbm, 54, rfl⟩
abbrev main_v19_2 : Ref sig .tc := ⟨.hbm, 55, rfl⟩
abbrev main_v19_3 : Ref sig .tc := ⟨.hbm, 56, rfl⟩
abbrev main_v19_4 : Ref sig .tc := ⟨.hbm, 57, rfl⟩
abbrev main_v19_5 : Ref sig .tc := ⟨.hbm, 58, rfl⟩
abbrev main_v19_6 : Ref sig .tc := ⟨.hbm, 59, rfl⟩
abbrev main_v19_7 : Ref sig .tc := ⟨.hbm, 60, rfl⟩
abbrev main_v19_8 : Ref sig .tc := ⟨.hbm, 61, rfl⟩
abbrev main_v19_9 : Ref sig .tc := ⟨.hbm, 62, rfl⟩
abbrev main_v19_10 : Ref sig .tc := ⟨.hbm, 63, rfl⟩
abbrev main_while0c_c_16 : Ref sig .tc := ⟨.hbm, 64, rfl⟩
abbrev main_while0c_v20 : Ref sig .tc := ⟨.hbm, 65, rfl⟩
abbrev main_while0b_call6_v0 : Ref sig .tc := ⟨.hbm, 66, rfl⟩
abbrev main_while0b_call6_cst : Ref sig .tc := ⟨.hbm, 67, rfl⟩
abbrev main_while0b_call6_v1 : Ref sig .tc := ⟨.hbm, 68, rfl⟩
abbrev main_while0b_call6_v2 : Ref sig .tc := ⟨.hbm, 69, rfl⟩
abbrev main_while0b_v20 : Ref sig .tc := ⟨.hbm, 70, rfl⟩
abbrev main_while0b_cst_16 : Ref sig .tc := ⟨.hbm, 71, rfl⟩
abbrev main_while0b_call7_v0 : Ref sig .tc := ⟨.hbm, 72, rfl⟩
abbrev main_while0b_call7_v1 : Ref sig .tc := ⟨.hbm, 73, rfl⟩
abbrev main_while0b_v21 : Ref sig .tc := ⟨.hbm, 74, rfl⟩
abbrev main_while0b_v22 : Ref sig .tc := ⟨.hbm, 75, rfl⟩
abbrev main_while0b_v23 : Ref sig .tc := ⟨.hbm, 76, rfl⟩
abbrev main_while0b_v24 : Ref sig .tc := ⟨.hbm, 77, rfl⟩
abbrev main_while0b_cst_17 : Ref sig .tc := ⟨.hbm, 78, rfl⟩
abbrev main_while0b_v25 : Ref sig .tc := ⟨.hbm, 79, rfl⟩
abbrev main_while0b_v26 : Ref sig .tc := ⟨.hbm, 80, rfl⟩
abbrev main_while0b_v27 : Ref sig .tc := ⟨.hbm, 81, rfl⟩
abbrev main_while0b_v28 : Ref sig .tc := ⟨.hbm, 82, rfl⟩
abbrev main_while0b_v29 : Ref sig .tc := ⟨.hbm, 83, rfl⟩
abbrev main_while0b_v30 : Ref sig .tc := ⟨.hbm, 84, rfl⟩
abbrev main_while0b_v31 : Ref sig .tc := ⟨.hbm, 85, rfl⟩
abbrev main_while0b_v32 : Ref sig .tc := ⟨.hbm, 86, rfl⟩
abbrev main_while0b_call8_v0 : Ref sig .tc := ⟨.hbm, 87, rfl⟩
abbrev main_while0b_call8_cst : Ref sig .tc := ⟨.hbm, 88, rfl⟩
abbrev main_while0b_call8_v1 : Ref sig .tc := ⟨.hbm, 89, rfl⟩
abbrev main_while0b_call8_v2 : Ref sig .tc := ⟨.hbm, 90, rfl⟩
abbrev main_while0b_v33 : Ref sig .tc := ⟨.hbm, 91, rfl⟩
abbrev main_while0b_cst_18 : Ref sig .tc := ⟨.hbm, 92, rfl⟩
abbrev main_while0b_call9_v0 : Ref sig .tc := ⟨.hbm, 93, rfl⟩
abbrev main_while0b_call9_v1 : Ref sig .tc := ⟨.hbm, 94, rfl⟩
abbrev main_while0b_v34 : Ref sig .tc := ⟨.hbm, 95, rfl⟩
abbrev main_while0b_v35 : Ref sig .tc := ⟨.hbm, 96, rfl⟩
abbrev main_while0b_v36 : Ref sig .tc := ⟨.hbm, 97, rfl⟩
abbrev main_while0b_v37 : Ref sig .tc := ⟨.hbm, 98, rfl⟩
abbrev main_while0b_v38 : Ref sig .tc := ⟨.hbm, 99, rfl⟩
abbrev main_while0b_v39 : Ref sig .tc := ⟨.hbm, 100, rfl⟩
abbrev main_while0b_v40 : Ref sig .tc := ⟨.hbm, 101, rfl⟩
abbrev main_while0b_v41 : Ref sig .tc := ⟨.hbm, 102, rfl⟩
abbrev main_while0b_v42 : Ref sig .tc := ⟨.hbm, 103, rfl⟩
abbrev main_while0b_v43 : Ref sig .tc := ⟨.hbm, 104, rfl⟩
abbrev main_while0b_v44 : Ref sig .tc := ⟨.hbm, 105, rfl⟩
abbrev main_while0b_v45 : Ref sig .tc := ⟨.hbm, 106, rfl⟩
abbrev main_while0b_v46 : Ref sig .tc := ⟨.hbm, 107, rfl⟩
abbrev main_while0b_v47 : Ref sig .tc := ⟨.hbm, 108, rfl⟩
abbrev main_while0b_v48 : Ref sig .tc := ⟨.hbm, 109, rfl⟩
abbrev main_while0b_v49 : Ref sig .tc := ⟨.hbm, 110, rfl⟩
abbrev main_while0b_v50 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_call10_v0 : Ref sig .tc := ⟨.hbm, 116, rfl⟩
abbrev main_while0b_call10_cst : Ref sig .tc := ⟨.hbm, 117, rfl⟩
abbrev main_while0b_call10_v1 : Ref sig .tc := ⟨.hbm, 118, rfl⟩
abbrev main_while0b_call10_v2 : Ref sig .tc := ⟨.hbm, 119, rfl⟩
abbrev main_while0b_v55 : Ref sig .tc := ⟨.hbm, 120, rfl⟩
abbrev main_while0b_cst_19 : Ref sig .tc := ⟨.hbm, 121, rfl⟩
abbrev main_while0b_v56 : Ref sig .tc := ⟨.hbm, 122, rfl⟩
abbrev main_while0b_v57 : Ref sig .tc := ⟨.hbm, 123, rfl⟩
abbrev main_while0b_cst_20 : Ref sig .tc := ⟨.hbm, 124, rfl⟩
abbrev main_while0b_v58 : Ref sig .tc := ⟨.hbm, 125, rfl⟩
abbrev main_while0b_v59 : Ref sig .tc := ⟨.hbm, 126, rfl⟩
abbrev main_while0b_v60 : Ref sig .tc := ⟨.hbm, 127, rfl⟩
abbrev main_while0b_v61 : Ref sig .tc := ⟨.hbm, 128, rfl⟩
abbrev main_while0b_call11_v0 : Ref sig .tc := ⟨.hbm, 129, rfl⟩
abbrev main_while0b_v62 : Ref sig .tc := ⟨.hbm, 130, rfl⟩
abbrev main_while0b_call12_v0 : Ref sig .tc := ⟨.hbm, 131, rfl⟩
abbrev main_while0b_call12_c : Ref sig .tc := ⟨.hbm, 132, rfl⟩
abbrev main_while0b_call12_c_0 : Ref sig .tc := ⟨.hbm, 133, rfl⟩
abbrev main_while0b_v63 : Ref sig .tc := ⟨.hbm, 134, rfl⟩
abbrev main_while0b_call13_v0 : Ref sig .tc := ⟨.hbm, 135, rfl⟩
abbrev main_while0b_call13_c : Ref sig .tc := ⟨.hbm, 136, rfl⟩
abbrev main_while0b_call13_c_0 : Ref sig .tc := ⟨.hbm, 137, rfl⟩
abbrev main_while0b_v64 : Ref sig .tc := ⟨.hbm, 138, rfl⟩
abbrev main_while0b_call14_v0 : Ref sig .tc := ⟨.hbm, 139, rfl⟩
abbrev main_while0b_call14_c : Ref sig .tc := ⟨.hbm, 140, rfl⟩
abbrev main_while0b_call14_c_0 : Ref sig .tc := ⟨.hbm, 141, rfl⟩
abbrev main_while0b_v65 : Ref sig .tc := ⟨.hbm, 142, rfl⟩
abbrev main_while0b_c_21 : Ref sig .tc := ⟨.hbm, 143, rfl⟩
abbrev main_while0b_v66 : Ref sig .tc := ⟨.hbm, 144, rfl⟩

abbrev nD : Nat := 1
abbrev τ : Topo := Topo.v7x

variable {F : FTy → Type} [FloatOps F]

abbrev main_while0_count : Scf.Loop 32 := ⟨0#32, 6#32, 1#32⟩
-- ==== Proof.Consts.lean ====
/- The float constants the two programs spell, as the extended reals their bit patterns denote. -/
module

public import Idealize.ShloMosaic.PureOps.Ideal

@[expose] public section

noncomputable section

namespace Cert.Consts

open Idealize.ShloMosaic

/-- The float32 literal `1e-12`, below which a norm is not divided by. -/
def eps : ℝ := 2305843 / 2 ^ 61

/-- The float32 literal `0.1`, the strength of each anchor's pull. -/
def str : ℝ := 13421773 / 134217728

/-- `eps` is positive. -/
theorem eps_pos : 0 < eps := by unfold eps; positivity

/-- The word of the reference's `1e-12` denotes `eps`. -/
theorem ofBits_eps : Ideal.ofBits .f32 0x2B8CBCCC#32 = ((eps : ℝ) : EReal) := by
  simp [Ideal.ofBits, Ideal.ieee, eps, -EReal.coe_mul]; norm_num

/-- The word of `0.1` denotes `str`. -/
theorem ofBits_str : Ideal.ofBits .f32 0x3DCCCCCD#32 = ((str : ℝ) : EReal) := by
  simp [Ideal.ofBits, Ideal.ieee, str, -EReal.coe_mul]; norm_num

/-- The word of `10.0` denotes ten. -/
theorem ofBits_ten : Ideal.ofBits .f32 0x41200000#32 = ((10 : ℝ) : EReal) := by
  simp [Ideal.ofBits, Ideal.ieee, -EReal.coe_mul]; norm_num

/-- The word of `2.0` denotes two. -/
theorem ofBits_two : Ideal.ofBits .f32 0x40000000#32 = ((2 : ℝ) : EReal) := by
  simp [Ideal.ofBits, Ideal.ieee, -EReal.coe_mul]; norm_num

/-- The word of `1.0` denotes one. -/
theorem ofBits_one : Ideal.ofBits .f32 0x3F800000#32 = ((1 : ℝ) : EReal) := by
  simp [Ideal.ofBits, Ideal.ieee, -EReal.coe_mul]; norm_num

/-- The word of infinity denotes the top element. -/
theorem ofBits_inf : Ideal.ofBits .f32 0x7F800000#32 = ⊤ := by
  simp [Ideal.ofBits, Ideal.ieee]

/-- The kernel's constant is the square of the reference's. -/
theorem eps_sq : ((5316911940649 / 5316911983139663491615228241121378304 : ℝ) : EReal) = ((eps ^ 2 : ℝ) : EReal) := by
  unfold eps; norm_num

end Cert.Consts

end
-- ==== Proof.Row.lean ====
/- One layer on one row, in extended reals: how the reference writes it and how the kernel writes it. -/
module

public import proofs.«01_k».proof.Proof.Consts

@[expose] public section

noncomputable section

namespace Cert.Row

open Idealize.ShloMosaic Cert.Consts

/-- One row of hidden states (or one anchor). -/
abbrev Vec := Fin 256 → EReal

/-! ### The reference's layer -/

/-- The Euclidean norm of a row. -/
def norm (x : Vec) : EReal := Ideal.sqrt (∑ d, x d * x d)

/-- A row divided by its norm, the norm clipped from below at `eps`. -/
def unit (x : Vec) : Vec := fun d => Ideal.div (x d) (max (eps : EReal) (norm x))

/-- The alignment of a row with each of three unit anchors. -/
def align (u : Fin 3 → Vec) (h : Vec) (a : Fin 3) : EReal := ∑ d, unit h d * u a d

/-- The divergence of a row from each anchor. -/
def dive (u : Fin 3 → Vec) (h : Vec) (a : Fin 3) : EReal := 1 - align u h a

/-- The total pull of the anchors on a row. -/
def force (u : Fin 3 → Vec) (h : Vec) : Vec :=
  fun d => ∑ a, unit (fun k => h k - u a k) d * (-(str : EReal) * dive u h a)

/-- A row scaled down to norm ten where its norm exceeds ten. -/
def clip (w : Vec) : Vec := fun d => if (10 : ℝ) < norm w then w d * Ideal.div (10 : ℝ) (norm w) else w d

/-- The reference's layer before the clip, for an update `y`. -/
def fresh (u : Fin 3 → Vec) (h y : Vec) : Vec := fun d => (h d + y d) + force u h d

/-- The reference's layer, for an update `y`. -/
def layer (u : Fin 3 → Vec) (h y : Vec) : Vec := clip (fresh u h y)

/-- The row after `k` layers, each making its update `f` of the row before. -/
def path (u : Fin 3 → Vec) (f : Vec → Vec) (h : Vec) : ℕ → Vec
  | 0 => h
  | k + 1 => layer u (path u f h k) (f (path u f h k))

/-- The update the two-layer perceptron makes of a row. -/
def update (W1 : Fin 256 → Vec) (b1 : Vec) (W2 : Fin 256 → Vec) (b2 : Vec) (h : Vec) : Vec :=
  fun d => (∑ k, Ideal.tanh ((∑ j, h j * W1 k j) + b1 k) * W2 d k) + b2 d

/-! ### The kernel's layer, on a row `h` and a carried square norm `n`, with the anchors `A` as given -/

/-- The reciprocal of an anchor's norm. -/
def kinv (A : Fin 3 → Vec) (a : Fin 3) : EReal := Ideal.rsqrt (max (∑ d, A a d * A a d) ((eps ^ 2 : ℝ) : EReal))

/-- The inner product of a row with each normalized anchor. -/
def kraw (A : Fin 3 → Vec) (h : Vec) (a : Fin 3) : EReal := (∑ d, h d * A a d) * kinv A a

/-- The kernel's alignment. -/
def kalign (A : Fin 3 → Vec) (h : Vec) (n : EReal) (a : Fin 3) : EReal :=
  kraw A h a * Ideal.rsqrt (max n ((eps ^ 2 : ℝ) : EReal))

/-- The coefficient with which each anchor pulls: divergence over distance, the distance by the law of cosines. -/
def kcoef (A : Fin 3 → Vec) (h : Vec) (n : EReal) (a : Fin 3) : EReal :=
  (1 - kalign A h n a) * Ideal.rsqrt (max ((n - (2 : ℝ) * kraw A h a) + 1) ((eps ^ 2 : ℝ) : EReal))

/-- The factor on the row itself. -/
def kself (A : Fin 3 → Vec) (h : Vec) (n : EReal) : EReal := 1 - (str : EReal) * ∑ a, kcoef A h n a

/-- The kernel's layer before the clip, for an update `y`. -/
def kfresh (A : Fin 3 → Vec) (h : Vec) (n : EReal) (y : Vec) : Vec :=
  fun d => h d * kself A h n + (y d + (str : EReal) * ∑ a, kcoef A h n a * (A a d * kinv A a))

/-- The kernel's clip factor for a square norm. -/
def kscale (n : EReal) : EReal := min ((10 : ℝ) * Ideal.rsqrt (max n ((eps ^ 2 : ℝ) : EReal))) 1

/-- The square norm of the kernel's row before the clip. -/
def ksq (A : Fin 3 → Vec) (h : Vec) (n : EReal) (y : Vec) : EReal :=
  ∑ d, kfresh A h n y d * kfresh A h n y d

/-- The kernel's layer, for an update `y`. -/
def klayer (A : Fin 3 → Vec) (h : Vec) (n : EReal) (y : Vec) : Vec :=
  fun d => kfresh A h n y d * kscale (ksq A h n y)

/-- The square norm the kernel carries to the next layer. -/
def knext (A : Fin 3 → Vec) (h : Vec) (n : EReal) (y : Vec) : EReal :=
  (ksq A h n y * kscale (ksq A h n y)) * kscale (ksq A h n y)

end Cert.Row

end
-- ==== Proof.Layer.lean ====
/- One layer as the kernel computes it on a block of 2048 rows, and its value at each row: the row mathematics. -/
module

public import proofs.«01_k».proof.Proof.Gen.KernelIdeal.Frame
public import proofs.«01_k».proof.Proof.Row
public import Idealize.ShloMosaic.Lib.Pointwise
public import Idealize.ShloMosaic.Lib.IdealHost

@[expose] public section

set_option maxRecDepth 16384

noncomputable section

namespace Cert.KernelIdeal.Layer

open Idealize.ShloMosaic Cert.KernelIdeal Cert.KernelIdeal.Gen Facts Cert.Consts

/-- The named constant under the kernel's roots. -/
abbrev cEps : Ideal .f32 := Named.named (F := Ideal) κ "neps_sq" (φ := .f32) 0x179ABE15#32
/-- The constant one. -/
abbrev cOne : Ideal .f32 := Scalar.ofBits (F := Ideal) .f32 0x3F800000#32
/-- The constant two. -/
abbrev cTwo : Ideal .f32 := Scalar.ofBits (F := Ideal) .f32 0x40000000#32
/-- The constant a tenth. -/
abbrev cTenth : Ideal .f32 := Scalar.ofBits (F := Ideal) .f32 0x3DCCCCCD#32
/-- The constant ten. -/
abbrev cTen : Ideal .f32 := Scalar.ofBits (F := Ideal) .f32 0x41200000#32

/-- The row sums of squares of a block. -/
def sq (w : FVec Ideal S2048x256 .f32) : FVec Ideal S2048x1 .f32 :=
  shapeCast S2048x1 (multiReduction .add [1] S2048 (mulf w w) 0x00000000#32 reduces_S2048x256_S2048 (.inl rfl) rfl) shapeCasts_S2048_S2048x1

/-- The one product of a block with the first weights and the anchors side by side. -/
def prod (wc : FVec Ideal S256x259 .f32) (h : FVec Ideal S2048x256 .f32) : FVec Ideal S2048x259 .f32 :=
  matmul dot_S2048x256_S256x259_S2048x259_1_0_0_1_n_n none h wc (constant S2048x259 .f32 0x00000000#32)

/-- Its columns over the first weights. -/
def pre (wc : FVec Ideal S256x259 .f32) (h : FVec Ideal S2048x256 .f32) : FVec Ideal S2048x256 .f32 :=
  extractStridedSlice S2048x256 ![0, 0] (prod wc h) slices_S2048x259_o0_0_S2048x256

/-- Its columns over the anchors, each divided by the anchor's norm. -/
def raw (wc : FVec Ideal S256x259 .f32) (iv : FVec Ideal S1x3 .f32) (h : FVec Ideal S2048x256 .f32) : FVec Ideal S2048x3 .f32 :=
  mulf (extractStridedSlice S2048x3 ![0, 256] (prod wc h) slices_S2048x259_o0_256_S2048x3) (broadcastTo S2048x3 iv broadcasts_S1x3_S2048x3)

/-- The alignments. -/
def align (wc : FVec Ideal S256x259 .f32) (iv : FVec Ideal S1x3 .f32) (h : FVec Ideal S2048x256 .f32) (n : FVec Ideal S2048x1 .f32) :
    FVec Ideal S2048x3 .f32 :=
  mulf (raw wc iv h) (broadcastTo S2048x3 (rsqrt (maximumf n (broadcast S2048x1 cEps))) broadcasts_S2048x1_S2048x3)

/-- The pull coefficients. -/
def coef (wc : FVec Ideal S256x259 .f32) (iv : FVec Ideal S1x3 .f32) (h : FVec Ideal S2048x256 .f32) (n : FVec Ideal S2048x1 .f32) :
    FVec Ideal S2048x3 .f32 :=
  mulf (subf (broadcast S2048x3 cOne) (align wc iv h n))
    (rsqrt (maximumf (addf (subf (broadcastTo S2048x3 n broadcasts_S2048x1_S2048x3) (mulf (broadcast S2048x3 cTwo) (raw wc iv h)))
      (broadcast S2048x3 cOne)) (broadcast S2048x3 cEps)))

/-- The factor on each row itself. -/
def self (wc : FVec Ideal S256x259 .f32) (iv : FVec Ideal S1x3 .f32) (h : FVec Ideal S2048x256 .f32) (n : FVec Ideal S2048x1 .f32) :
    FVec Ideal S2048x1 .f32 :=
  subf (broadcast S2048x1 cOne) (mulf (broadcast S2048x1 cTenth)
    (shapeCast S2048x1 (multiReduction .add [1] S2048 (coef wc iv h n) 0x00000000#32 reduces_S2048x3_S2048 (.inl rfl) rfl) shapeCasts_S2048_S2048x1))

/-- The anchors' pull on each row. -/
def pull (wc : FVec Ideal S256x259 .f32) (iv : FVec Ideal S1x3 .f32) (an : FVec Ideal S3x256 .f32) (h : FVec Ideal S2048x256 .f32)
    (n : FVec Ideal S2048x1 .f32) : FVec Ideal S2048x256 .f32 :=
  matmul dot_S2048x3_S3x256_S2048x256_1_0_0_1_n_n none (coef wc iv h n) an (constant S2048x256 .f32 0x00000000#32)

/-- The perceptron's update of each row. -/
def update (wc : FVec Ideal S256x259 .f32) (w2 : FVec Ideal S256x256 .f32) (b1 b2 : FVec Ideal S1x256 .f32) (h : FVec Ideal S2048x256 .f32) :
    FVec Ideal S2048x256 .f32 :=
  addf (matmul dot_S2048x256_S256x256_S2048x256_1_0_0_1_n_n none (tanh (addf (pre wc h) (broadcastTo S2048x256 b1 broadcasts_S1x256_S2048x256))) w2
    (constant S2048x256 .f32 0x00000000#32)) (broadcastTo S2048x256 b2 broadcasts_S1x256_S2048x256)

/-- The operands that stay the same for all layers. -/
structure Ops where
  /-- first weights and anchors side by side -/
  wc : FVec Ideal S256x259 .f32
  /-- second weights, transposed -/
  w2 : FVec Ideal S256x256 .f32
  /-- first bias -/
  b1 : FVec Ideal S1x256 .f32
  /-- second bias -/
  b2 : FVec Ideal S1x256 .f32
  /-- normalized anchors -/
  an : FVec Ideal S3x256 .f32
  /-- reciprocals of the anchors' norms -/
  iv : FVec Ideal S1x3 .f32

/-- The rows before the clip. -/
def fresh (o : Ops) (h : FVec Ideal S2048x256 .f32) (n : FVec Ideal S2048x1 .f32) : FVec Ideal S2048x256 .f32 :=
  addf (mulf h (broadcastTo S2048x256 (self o.wc o.iv h n) broadcasts_S2048x1_S2048x256))
    (addf (update o.wc o.w2 o.b1 o.b2 h) (mulf (broadcast S2048x256 cTenth) (pull o.wc o.iv o.an h n)))

/-- The clip factor of each row, from its square norm. -/
def scale (q : FVec Ideal S2048x1 .f32) : FVec Ideal S2048x1 .f32 :=
  minimumf (mulf (broadcast S2048x1 cTen) (rsqrt (maximumf q (broadcast S2048x1 cEps)))) (broadcast S2048x1 cOne)

/-- The rows after the layer. -/
def next (o : Ops) (h : FVec Ideal S2048x256 .f32) (n : FVec Ideal S2048x1 .f32) : FVec Ideal S2048x256 .f32 :=
  mulf (fresh o h n) (broadcastTo S2048x256 (scale (sq (fresh o h n))) broadcasts_S2048x1_S2048x256)

/-- The square norms carried on. -/
def carry (o : Ops) (h : FVec Ideal S2048x256 .f32) (n : FVec Ideal S2048x1 .f32) : FVec Ideal S2048x1 .f32 :=
  mulf (mulf (sq (fresh o h n)) (scale (sq (fresh o h n)))) (scale (sq (fresh o h n)))

/-- What the operands hold, entry by entry: weights `W1`, `W2`, biases `b1`, `b2` and anchors `A`. -/
structure Ops.Holds (o : Ops) (W1 : Fin 256 → Row.Vec) (b1 : Row.Vec) (W2 : Fin 256 → Row.Vec) (b2 : Row.Vec) (A : Fin 3 → Row.Vec) : Prop where
  wc1 : ∀ j k : Fin 256, o.wc (ix2 j (⟨k, by omega⟩ : Fin 259)) = W1 k j
  wcA : ∀ (j : Fin 256) (a : Fin 3), o.wc (ix2 j (⟨256 + a, by omega⟩ : Fin 259)) = A a j
  w2 : ∀ k d : Fin 256, o.w2 (ix2 k d) = W2 d k
  b1 : ∀ k : Fin 256, o.b1 (ix2 (0 : Fin 1) k) = b1 k
  b2 : ∀ k : Fin 256, o.b2 (ix2 (0 : Fin 1) k) = b2 k
  an : ∀ (a : Fin 3) (d : Fin 256), o.an (ix2 a d) = A a d * Row.kinv A a
  iv : ∀ a : Fin 3, o.iv (ix2 (0 : Fin 1) a) = Row.kinv A a

/-- A row of a block. -/
def row (h : FVec Ideal S2048x256 .f32) (r : Fin 2048) : Row.Vec := fun d => h (ix2 r d)

/-- The named constant denotes the square of `eps`. -/
theorem named_eq : cEps = ((eps ^ 2 : ℝ) : EReal) := by
  rw [← eps_sq]
  exact (IdealRules.named_const.statement κ "neps_sq" .f32 0x179ABE15#32 _ rfl).2.2

variable (o : Ops) (h : FVec Ideal S2048x256 .f32) (n : FVec Ideal S2048x1 .f32)
variable {W1 : Fin 256 → Row.Vec} {b1 : Row.Vec} {W2 : Fin 256 → Row.Vec} {b2 : Row.Vec} {A : Fin 3 → Row.Vec}

/-- The sums of squares, row by row. -/
theorem sq_at (w : FVec Ideal S2048x256 .f32) (r : Fin 2048) : sq w (ix2 r (0 : Fin 1)) = ∑ d, row w r d * row w r d := by
  pointwise [sq]
  rfl

/-- The inner products with the normalized anchors, row by row. -/
theorem raw_at (ho : o.Holds W1 b1 W2 b2 A) (r : Fin 2048) (a : Fin 3) :
    raw o.wc o.iv h (ix2 r a) = Row.kraw A (row h r) a := by
  pointwise [raw, prod]
  simp only [ho.wcA, ho.iv]
  rfl

/-- The alignments, row by row. -/
theorem align_at (ho : o.Holds W1 b1 W2 b2 A) (r : Fin 2048) (a : Fin 3) :
    align o.wc o.iv h n (ix2 r a) = Row.kalign A (row h r) (n (ix2 r (0 : Fin 1))) a := by
  pointwise [align]
  rw [raw_at o h ho, named_eq]
  rfl

/-- The pull coefficients, row by row. -/
theorem coef_at (ho : o.Holds W1 b1 W2 b2 A) (r : Fin 2048) (a : Fin 3) :
    coef o.wc o.iv h n (ix2 r a) = Row.kcoef A (row h r) (n (ix2 r (0 : Fin 1))) a := by
  pointwise [coef]
  rw [align_at o h n ho, raw_at o h ho, named_eq, ofBits_two]
  rfl

/-- The factor on the row itself, row by row. -/
theorem self_at (ho : o.Holds W1 b1 W2 b2 A) (r : Fin 2048) :
    self o.wc o.iv h n (ix2 r (0 : Fin 1)) = Row.kself A (row h r) (n (ix2 r (0 : Fin 1))) := by
  pointwise [self]
  simp only [coef_at o h n ho, ofBits_str]
  rfl

/-- The update, row by row. -/
theorem update_at (ho : o.Holds W1 b1 W2 b2 A) (r : Fin 2048) (d : Fin 256) :
    update o.wc o.w2 o.b1 o.b2 h (ix2 r d) = Row.update W1 b1 W2 b2 (row h r) d := by
  pointwise [update, pre, prod]
  simp only [ho.wc1, ho.w2, ho.b1, ho.b2]
  rfl

/-- The rows before the clip. -/
theorem fresh_at (ho : o.Holds W1 b1 W2 b2 A) (r : Fin 2048) :
    row (fresh o h n) r
      = Row.kfresh A (row h r) (n (ix2 r (0 : Fin 1))) (Row.update W1 b1 W2 b2 (row h r)) := by
  funext d
  unfold row
  pointwise [fresh, pull]
  rw [self_at o h n ho, update_at o h ho, ofBits_str]
  simp only [coef_at o h n ho, ho.an]
  rfl

/-- The clip factor, row by row. -/
theorem scale_at (q : FVec Ideal S2048x1 .f32) (r : Fin 2048) :
    scale q (ix2 r (0 : Fin 1)) = Row.kscale (q (ix2 r (0 : Fin 1))) := by
  pointwise [scale]
  rw [named_eq, ofBits_ten]
  rfl

/-- The square norms before the clip, row by row. -/
theorem fresh_sq_at (ho : o.Holds W1 b1 W2 b2 A) (r : Fin 2048) :
    sq (fresh o h n) (ix2 r (0 : Fin 1))
      = Row.ksq A (row h r) (n (ix2 r (0 : Fin 1))) (Row.update W1 b1 W2 b2 (row h r)) := by
  rw [sq_at, fresh_at o h n ho]
  rfl

/-- The rows after the layer. -/
theorem next_at (ho : o.Holds W1 b1 W2 b2 A) (r : Fin 2048) :
    row (next o h n) r
      = Row.klayer A (row h r) (n (ix2 r (0 : Fin 1))) (Row.update W1 b1 W2 b2 (row h r)) := by
  funext d
  have e := congrFun (fresh_at o h n ho r) d
  unfold row at e ⊢
  pointwise [next]
  rw [scale_at, fresh_sq_at o h n ho, e]
  rfl

/-- The square norms carried on, row by row. -/
theorem carry_at (ho : o.Holds W1 b1 W2 b2 A) (r : Fin 2048) :
    carry o h n (ix2 r (0 : Fin 1))
      = Row.knext A (row h r) (n (ix2 r (0 : Fin 1))) (Row.update W1 b1 W2 b2 (row h r)) := by
  pointwise [carry]
  rw [scale_at, fresh_sq_at o h n ho]
  rfl

end Cert.KernelIdeal.Layer

end
-- ==== Proof.RowEq.lean ====
/- The kernel's layer on a row is the reference's, the carried square norm staying the row's: for every row of
   extended reals and every update, when the anchors are finite and long enough for the clip of their norm not to act. -/
module

public import proofs.«01_k».proof.Proof.Row

@[expose] public section

noncomputable section

namespace Cert.Row

open Idealize.ShloMosaic Cert.Consts

/-- An extended real that is no real. -/
def Inf (x : EReal) : Prop := x = ⊤ ∨ x = ⊥

/-- An infinity plus anything is an infinity. -/
theorem Inf.add {x : EReal} (h : Inf x) (y : EReal) : Inf (x + y) := by
  rcases h with rfl | rfl
  · induction y with
    | bot => right; simp
    | coe r => left; exact EReal.top_add_coe r
    | top => left; simp
  · right; simp

/-- An infinity times a real off zero is an infinity. -/
theorem Inf.mul {x : EReal} (h : Inf x) {r : ℝ} (hr : r ≠ 0) : Inf (x * (r : EReal)) := by
  rcases lt_or_gt_of_ne hr with hn | hp
  · rcases h with rfl | rfl
    · right; exact EReal.top_mul_coe_of_neg hn
    · left; exact EReal.bot_mul_coe_of_neg hn
  · rcases h with rfl | rfl
    · left; exact EReal.top_mul_coe_of_pos hp
    · right; exact EReal.bot_mul_coe_of_pos hp

/-- A row is a row of reals, or some entry of it is an infinity. -/
theorem real_or_inf (w : Vec) : (∃ x : Fin 256 → ℝ, w = fun d => (x d : EReal)) ∨ ∃ i, Inf (w i) := by
  by_cases h : ∃ i, Inf (w i)
  · exact .inr h
  · left
    push Not at h
    refine ⟨fun d => (w d).toReal, funext fun d => ?_⟩
    exact (EReal.coe_toReal (fun e => h d (.inl e)) (fun e => h d (.inr e))).symm

/-- A square is not negative. -/
theorem mul_self_nonneg' (x : EReal) : 0 ≤ x * x := by
  induction x with
  | bot => simp
  | coe r => rw [← EReal.coe_mul]; exact_mod_cast mul_self_nonneg r
  | top => simp

/-- The square sum of a row with an infinite entry is infinite. -/
theorem sq_top {w : Vec} (h : ∃ i, Inf (w i)) : ∑ d, w d * w d = ⊤ := by
  obtain ⟨i, hi⟩ := h
  have e : w i * w i = ⊤ := by rcases hi with e | e <;> rw [e] <;> simp
  exact top_le_iff.mp (e ▸ Finset.single_le_sum (f := fun d => w d * w d) (fun d _ => mul_self_nonneg' (w d)) (Finset.mem_univ i))

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The square sum of a row of reals. -/
theorem sq_coe (x : Fin 256 → ℝ) : ∑ d, (x d : EReal) * (x d : EReal) = ((∑ d, x d ^ 2 : ℝ) : EReal) := by
  rw [coe_sum]; exact Finset.sum_congr rfl fun d _ => by rw [sq, EReal.coe_mul]

/-- The larger of two reals, in the extended reals. -/
theorem coe_max (a b : ℝ) : max (a : EReal) (b : EReal) = ((max a b : ℝ) : EReal) :=
  ((EReal.coe_strictMono.monotone).map_max).symm

/-- The smaller of two reals, in the extended reals. -/
theorem coe_min (a b : ℝ) : min (a : EReal) (b : EReal) = ((min a b : ℝ) : EReal) :=
  ((EReal.coe_strictMono.monotone).map_min).symm

/-- The larger of a norm and `eps` is positive. -/
theorem len_pos (q : ℝ) : 0 < max (√q) eps := lt_max_of_lt_right eps_pos

/-- The kernel's reciprocal root, clipped at `eps ^ 2` under the root, of a real square sum. -/
theorem rsqrt_clip {q : ℝ} (hq : 0 ≤ q) :
    Ideal.rsqrt (max (q : EReal) ((eps ^ 2 : ℝ) : EReal)) = (((max (√q) eps)⁻¹ : ℝ) : EReal) := by
  have hp : 0 < max q (eps ^ 2) := lt_max_of_lt_right (by have := eps_pos; positivity)
  have hs : √(max q (eps ^ 2)) = max (√q) eps := by
    rw [(show Monotone Real.sqrt from fun _ _ h => Real.sqrt_le_sqrt h).map_max, Real.sqrt_sq eps_pos.le]
  rw [coe_max, Ideal.rsqrt_coe, if_neg (not_lt.mpr hp.le), if_neg hp.ne', hs]

/-- The norm of a row of reals. -/
theorem norm_coe (x : Fin 256 → ℝ) : norm (fun d => (x d : EReal)) = ((√(∑ d, x d ^ 2) : ℝ) : EReal) := by
  unfold norm
  rw [sq_coe, Ideal.sqrt_coe, if_neg (not_lt.mpr (Finset.sum_nonneg fun d _ => sq_nonneg _))]

/-- Division of reals, off zero. -/
theorem div_coe {x y : ℝ} (hy : y ≠ 0) : Ideal.div (x : EReal) (y : EReal) = ((x * y⁻¹ : ℝ) : EReal) := by
  unfold Ideal.div
  rw [if_neg (by exact_mod_cast hy), EReal.coe_mul, EReal.coe_inv]

/-- A row of reals divided by its clipped norm. -/
theorem unit_coe (x : Fin 256 → ℝ) (d : Fin 256) :
    unit (fun d => (x d : EReal)) d = ((x d * (max (√(∑ d, x d ^ 2)) eps)⁻¹ : ℝ) : EReal) := by
  unfold unit
  rw [norm_coe, coe_max, max_comm eps, div_coe (len_pos _).ne']

/-! ### The clip -/

/-- The kernel's clip factor of a real square sum: ten over the norm where that exceeds ten, one elsewhere. -/
theorem kscale_coe {q : ℝ} (hq : 0 ≤ q) :
    kscale (q : EReal) = ((if 10 < √q then 10 * (√q)⁻¹ else 1 : ℝ) : EReal) := by
  have he : eps < 1 := by unfold eps; norm_num
  unfold kscale
  rw [rsqrt_clip hq, ← EReal.coe_mul, ← EReal.coe_one, coe_min]
  congr 1
  split_ifs with h
  · rw [max_eq_left (by linarith)]
    apply min_eq_left
    rw [← div_eq_mul_inv, div_le_one (by linarith)]; exact h.le
  · apply min_eq_right
    rw [← div_eq_mul_inv, le_div_iff₀ (len_pos q), one_mul]
    exact max_le (not_lt.mp h) (by linarith)

/-- The kernel's clip factor of an infinite square sum. -/
theorem kscale_top : kscale ⊤ = 0 := by
  unfold kscale
  rw [max_eq_left le_top, Ideal.rsqrt_top, mul_zero]
  exact min_eq_left zero_le_one

/-- The reference's clip of a row with an infinite entry is the zero row. -/
theorem clip_top {w : Vec} (h : ∃ i, Inf (w i)) (d : Fin 256) : clip w d = 0 := by
  have hn : norm w = ⊤ := by unfold norm; rw [sq_top h]; rfl
  unfold clip
  rw [hn, if_pos (EReal.coe_lt_top _)]
  unfold Ideal.div
  rw [if_neg EReal.top_ne_zero, EReal.inv_top, mul_zero, mul_zero]

/-- On every row the kernel's clip is the reference's. -/
theorem clip_eq (w : Vec) (d : Fin 256) : w d * kscale (∑ k, w k * w k) = clip w d := by
  rcases real_or_inf w with ⟨x, rfl⟩ | h
  · have hq : 0 ≤ ∑ k, x k ^ 2 := Finset.sum_nonneg fun d _ => sq_nonneg _
    unfold clip
    rw [sq_coe, kscale_coe hq, norm_coe]
    by_cases h : 10 < √(∑ k, x k ^ 2)
    · rw [if_pos h, if_pos (by exact_mod_cast h), div_coe (by linarith)]
    · rw [if_neg h, if_neg (by exact_mod_cast h), EReal.coe_one, mul_one]
  · rw [sq_top h, kscale_top, mul_zero, clip_top h]

/-- On every row the square norm the kernel carries is that of the reference's clipped row. -/
theorem clip_sq (w : Vec) :
    (∑ k, w k * w k) * kscale (∑ k, w k * w k) * kscale (∑ k, w k * w k) = ∑ d, clip w d * clip w d := by
  rcases real_or_inf w with ⟨x, rfl⟩ | h
  · have hq : 0 ≤ ∑ k, x k ^ 2 := Finset.sum_nonneg fun d _ => sq_nonneg _
    rw [← Finset.sum_congr rfl fun d _ => congrArg₂ (· * ·) (clip_eq (fun d => (x d : EReal)) d) (clip_eq (fun d => (x d : EReal)) d)]
    rw [sq_coe, kscale_coe hq]
    generalize (if 10 < √(∑ k, x k ^ 2) then 10 * (√(∑ k, x k ^ 2))⁻¹ else 1 : ℝ) = σ
    simp only [← EReal.coe_mul]
    rw [← coe_sum, Finset.sum_mul, Finset.sum_mul]
    congr 1
    exact Finset.sum_congr rfl fun d _ => by ring
  · rw [sq_top h, kscale_top, mul_zero]
    exact (Finset.sum_eq_zero fun d _ => by rw [clip_top h, mul_zero]).symm

/-! ### The anchors -/

/-- The anchors are reals, and each is at least `eps` long. -/
structure Anchored (A : Fin 3 → Vec) (v : Fin 3 → Fin 256 → ℝ) : Prop where
  coe : ∀ a d, A a d = (v a d : EReal)
  long : ∀ a, eps ≤ √(∑ d, v a d ^ 2)

/-- The length of an anchor. -/
def len (v : Fin 3 → Fin 256 → ℝ) (a : Fin 3) : ℝ := √(∑ d, v a d ^ 2)

variable {A : Fin 3 → Vec} {v : Fin 3 → Fin 256 → ℝ}

/-- An anchor's square sum. -/
theorem Anchored.sq (hA : Anchored A v) (a : Fin 3) : ∑ d, A a d * A a d = ((∑ d, v a d ^ 2 : ℝ) : EReal) := by
  rw [← sq_coe]; exact Finset.sum_congr rfl fun d _ => by rw [hA.coe]

/-- The kernel's reciprocal of an anchor's norm. -/
theorem Anchored.kinv (hA : Anchored A v) (a : Fin 3) : kinv A a = (((len v a)⁻¹ : ℝ) : EReal) := by
  unfold Row.kinv
  rw [hA.sq, rsqrt_clip (Finset.sum_nonneg fun d _ => sq_nonneg _), max_eq_left (hA.long a)]; rfl

/-- The reference's normalized anchor. -/
theorem Anchored.unit (hA : Anchored A v) (a : Fin 3) (d : Fin 256) :
    unit (A a) d = ((v a d * (len v a)⁻¹ : ℝ) : EReal) := by
  have e : A a = fun d => (v a d : EReal) := funext (hA.coe a)
  rw [e, unit_coe, max_eq_left (hA.long a)]; rfl

/-- A normalized anchor has length one. -/
theorem Anchored.one (hA : Anchored A v) (a : Fin 3) : ∑ d, (v a d * (len v a)⁻¹) ^ 2 = 1 := by
  have hp : 0 < len v a := lt_of_lt_of_le eps_pos (hA.long a)
  have hs : len v a ^ 2 = ∑ d, v a d ^ 2 := Real.sq_sqrt (Finset.sum_nonneg fun d _ => sq_nonneg _)
  have e : ∑ d, (v a d * (len v a)⁻¹) ^ 2 = (∑ d, v a d ^ 2) * ((len v a)⁻¹) ^ 2 := by
    rw [Finset.sum_mul]; exact Finset.sum_congr rfl fun d _ => by ring
  rw [e, ← hs]; field_simp

/-! ### A row of reals -/

/-- The kernel's inner product with a normalized anchor, on a row of reals. -/
theorem Anchored.kraw (hA : Anchored A v) (x : Fin 256 → ℝ) (a : Fin 3) :
    kraw A (fun d => (x d : EReal)) a = ((∑ d, x d * (v a d * (len v a)⁻¹) : ℝ) : EReal) := by
  unfold Row.kraw
  rw [hA.kinv]
  simp only [hA.coe, ← EReal.coe_mul]
  rw [← coe_sum, ← EReal.coe_mul, Finset.sum_mul]
  congr 1
  exact Finset.sum_congr rfl fun d _ => by ring

/-- The square distance of a row from a normalized anchor, by the law of cosines. -/
theorem Anchored.cosines (hA : Anchored A v) (x : Fin 256 → ℝ) (a : Fin 3) :
    ∑ d, x d ^ 2 - 2 * (∑ d, x d * (v a d * (len v a)⁻¹)) + 1 = ∑ d, (x d - v a d * (len v a)⁻¹) ^ 2 := by
  rw [← hA.one a, Finset.mul_sum, ← Finset.sum_sub_distrib, ← Finset.sum_add_distrib]
  exact Finset.sum_congr rfl fun d _ => by ring

/-- The alignment of a row of reals, as a real. -/
def al (v : Fin 3 → Fin 256 → ℝ) (x : Fin 256 → ℝ) (a : Fin 3) : ℝ :=
  (∑ d, x d * (v a d * (len v a)⁻¹)) * (max (√(∑ d, x d ^ 2)) eps)⁻¹

/-- The pull coefficient of a row of reals, as a real. -/
def co (v : Fin 3 → Fin 256 → ℝ) (x : Fin 256 → ℝ) (a : Fin 3) : ℝ :=
  (1 - al v x a) * (max (√(∑ d, (x d - v a d * (len v a)⁻¹) ^ 2)) eps)⁻¹

/-- The kernel's alignment on a row of reals. -/
theorem Anchored.kalign (hA : Anchored A v) (x : Fin 256 → ℝ) (a : Fin 3) :
    kalign A (fun d => (x d : EReal)) ((∑ d, x d ^ 2 : ℝ) : EReal) a = (al v x a : EReal) := by
  unfold Row.kalign
  rw [hA.kraw, rsqrt_clip (Finset.sum_nonneg fun d _ => sq_nonneg _), ← EReal.coe_mul]; rfl

/-- The reference's alignment on a row of reals. -/
theorem Anchored.align (hA : Anchored A v) (x : Fin 256 → ℝ) (a : Fin 3) :
    align (fun a => Row.unit (A a)) (fun d => (x d : EReal)) a = (al v x a : EReal) := by
  unfold Row.align al
  simp only [hA.unit, unit_coe, ← EReal.coe_mul]
  rw [← coe_sum, Finset.sum_mul]
  congr 1
  exact Finset.sum_congr rfl fun d _ => by ring

/-- The kernel's coefficient on a row of reals. -/
theorem Anchored.kcoef (hA : Anchored A v) (x : Fin 256 → ℝ) (a : Fin 3) :
    kcoef A (fun d => (x d : EReal)) ((∑ d, x d ^ 2 : ℝ) : EReal) a = (co v x a : EReal) := by
  unfold Row.kcoef co
  rw [hA.kalign, hA.kraw, ← EReal.coe_mul, ← EReal.coe_sub, ← EReal.coe_one, ← EReal.coe_add, ← EReal.coe_sub,
    hA.cosines, rsqrt_clip (Finset.sum_nonneg fun d _ => sq_nonneg _), ← EReal.coe_mul]

/-- The reference's pull on a row of reals. -/
theorem Anchored.force (hA : Anchored A v) (x : Fin 256 → ℝ) (d : Fin 256) :
    force (fun a => Row.unit (A a)) (fun d => (x d : EReal)) d
      = ((∑ a, co v x a * (-str * (x d - v a d * (len v a)⁻¹)) : ℝ) : EReal) := by
  unfold Row.force dive
  rw [coe_sum]
  refine Finset.sum_congr rfl fun a _ => ?_
  simp only [hA.align, hA.unit, ← EReal.coe_sub]
  rw [unit_coe, ← EReal.coe_one, ← EReal.coe_sub, ← EReal.coe_neg, ← EReal.coe_mul, ← EReal.coe_mul]
  congr 1
  unfold co
  ring

/-- On a row of reals the two layers agree before the clip, whatever the update. -/
theorem Anchored.fresh (hA : Anchored A v) (x : Fin 256 → ℝ) (y : Vec) (d : Fin 256) :
    kfresh A (fun d => (x d : EReal)) ((∑ d, x d ^ 2 : ℝ) : EReal) y d
      = fresh (fun a => Row.unit (A a)) (fun d => (x d : EReal)) y d := by
  unfold kfresh kself Row.fresh
  rw [hA.force]
  simp only [hA.kcoef, hA.kinv, hA.coe, ← EReal.coe_mul, ← coe_sum]
  rw [← EReal.coe_one, ← EReal.coe_sub, ← EReal.coe_mul]
  generalize hy : y d = t
  induction t with
  | bot => simp
  | top =>
    rw [EReal.top_add_coe, EReal.coe_add_top, EReal.coe_add_top, EReal.top_add_coe]
  | coe t =>
    simp only [← EReal.coe_add]
    congr 1
    have e : ∑ a, co v x a * (-str * (x d - v a d * (len v a)⁻¹))
        = -(x d * (str * ∑ a, co v x a)) + str * ∑ a, co v x a * (v a d * (len v a)⁻¹) := by
      rw [Finset.mul_sum, Finset.mul_sum, Finset.mul_sum, ← Finset.sum_neg_distrib, ← Finset.sum_add_distrib]
      exact Finset.sum_congr rfl fun a _ => by ring
    rw [e]; ring

/-! ### A row with an infinite entry -/

/-- The kernel's alignment of such a row is zero. -/
theorem kalign_top (A : Fin 3 → Vec) (h : Vec) (a : Fin 3) : kalign A h ⊤ a = 0 := by
  unfold kalign
  rw [max_eq_left le_top, Ideal.rsqrt_top, mul_zero]

/-- The reference's alignment of such a row is zero. -/
theorem align_top (u : Fin 3 → Vec) {h : Vec} (hh : ∃ i, Inf (h i)) (a : Fin 3) : align u h a = 0 := by
  have hn : norm h = ⊤ := by unfold norm; rw [sq_top hh]; rfl
  refine Finset.sum_eq_zero fun d _ => ?_
  unfold unit Ideal.div
  rw [hn, max_eq_right le_top, if_neg EReal.top_ne_zero, EReal.inv_top, mul_zero, zero_mul]

/-- The kernel's coefficient on such a row is zero or the reciprocal of `eps`. -/
theorem kcoef_top (A : Fin 3 → Vec) (h : Vec) (a : Fin 3) :
    ∃ c : ℝ, (c = 0 ∨ c = eps⁻¹) ∧ kcoef A h ⊤ a = (c : EReal) := by
  have hr : Ideal.rsqrt ((eps ^ 2 : ℝ) : EReal) = ((eps⁻¹ : ℝ) : EReal) := by
    have hp : 0 < eps ^ 2 := by have := eps_pos; positivity
    rw [Ideal.rsqrt_coe, if_neg (not_lt.mpr hp.le), if_neg hp.ne', Real.sqrt_sq eps_pos.le]
  unfold kcoef
  rw [kalign_top, sub_zero, one_mul]
  generalize ((2 : ℝ) : EReal) * kraw A h a = r
  have h1 : (⊤ : EReal) + 1 = ⊤ := EReal.top_add_coe 1
  induction r with
  | bot => exact ⟨0, .inl rfl, by rw [EReal.top_sub_bot, h1, max_eq_left le_top, Ideal.rsqrt_top]; rfl⟩
  | coe r => exact ⟨0, .inl rfl, by rw [EReal.top_sub_coe, h1, max_eq_left le_top, Ideal.rsqrt_top]; rfl⟩
  | top => exact ⟨eps⁻¹, .inr rfl, by rw [EReal.sub_top, EReal.bot_add, max_eq_right bot_le, hr]⟩

/-- The kernel's factor on such a row is a real off zero. -/
theorem kself_top (A : Fin 3 → Vec) (h : Vec) : ∃ r : ℝ, r ≠ 0 ∧ kself A h ⊤ = (r : EReal) := by
  choose c hc hk using kcoef_top A h
  refine ⟨1 - str * ∑ a, c a, ?_, ?_⟩
  · have key : ∀ a, c a = 0 ∨ c a = eps⁻¹ := hc
    rw [Fin.sum_univ_three]
    rcases key 0 with e0 | e0 <;> rcases key 1 with e1 | e1 <;> rcases key 2 with e2 | e2 <;>
      rw [e0, e1, e2] <;> norm_num [eps, str]
  · unfold kself
    simp only [hk]
    rw [← coe_sum, ← EReal.coe_mul, ← EReal.coe_one, ← EReal.coe_sub]

/-- The kernel's layer of such a row has an infinite entry before the clip. -/
theorem kfresh_top (A : Fin 3 → Vec) {h : Vec} (hh : ∃ i, Inf (h i)) (y : Vec) : ∃ i, Inf (kfresh A h ⊤ y i) := by
  obtain ⟨i, hi⟩ := hh
  obtain ⟨r, hr, e⟩ := kself_top A h
  exact ⟨i, by unfold kfresh; rw [e]; exact (hi.mul hr).add _⟩

/-- The reference's layer of such a row has an infinite entry before the clip. -/
theorem fresh_top (u : Fin 3 → Vec) {h : Vec} (hh : ∃ i, Inf (h i)) (y : Vec) : ∃ i, Inf (fresh u h y i) := by
  obtain ⟨i, hi⟩ := hh
  exact ⟨i, (hi.add _).add _⟩

/-! ### Every row -/

/-- The kernel's alignment is the reference's. -/
theorem Anchored.kalign_eq (hA : Anchored A v) (h : Vec) (a : Fin 3) :
    Row.kalign A h (∑ d, h d * h d) a = Row.align (fun a => Row.unit (A a)) h a := by
  rcases real_or_inf h with ⟨x, rfl⟩ | hh
  · rw [sq_coe, hA.kalign, hA.align]
  · rw [sq_top hh, kalign_top, align_top _ hh]

/-- The kernel's layer is the reference's. -/
theorem Anchored.klayer_eq (hA : Anchored A v) (h y : Vec) :
    klayer A h (∑ d, h d * h d) y = layer (fun a => Row.unit (A a)) h y := by
  funext d
  unfold klayer ksq layer
  rw [clip_eq]
  rcases real_or_inf h with ⟨x, rfl⟩ | hh
  · rw [sq_coe, show kfresh A (fun d => (x d : EReal)) _ y = _ from funext fun d => hA.fresh x y d]
  · rw [sq_top hh, clip_top (kfresh_top A hh y), clip_top (fresh_top _ hh y)]

/-- The square norm the kernel carries on is the next row's. -/
theorem Anchored.knext_eq (hA : Anchored A v) (h y : Vec) :
    knext A h (∑ d, h d * h d) y
      = ∑ d, layer (fun a => Row.unit (A a)) h y d * layer (fun a => Row.unit (A a)) h y d := by
  rw [← hA.klayer_eq]
  unfold knext ksq klayer ksq
  rw [clip_sq]
  exact Finset.sum_congr rfl fun d _ => by rw [clip_eq]

end Cert.Row

end
-- ==== Proof.Block.lean ====
/- What one block computes: the values the kernel's body stores are six layers, one on the other, of the block of rows. -/
module

public import proofs.«01_k».proof.Proof.Layer
public import proofs.«01_k».proof.Proof.RowEq
public import Idealize.ShloMosaic.Lib.Pipeline.ValueKit
public import Idealize.ShloMosaic.Lib.Pipeline.ValueKit.Stack

@[expose] public section

set_option maxRecDepth 16384

noncomputable section

namespace Cert.KernelIdeal.Block

open Idealize.ShloMosaic Cert.KernelIdeal Cert.KernelIdeal.Gen Facts Cert.Consts
open Cert.KernelIdeal.Layer (Ops row sq next carry align)

/-! ### Six layers of a block -/

/-- The rows and their square norms after `k` layers. -/
def state (o : Ops) (h : FVec Ideal S2048x256 .f32) : ℕ → FVec Ideal S2048x256 .f32 × FVec Ideal S2048x1 .f32
  | 0 => (h, sq h)
  | k + 1 => (next o (state o h k).1 (state o h k).2, carry o (state o h k).1 (state o h k).2)

/-- The alignments of the rows after `k` layers. -/
def aligned (o : Ops) (h : FVec Ideal S2048x256 .f32) (k : ℕ) : FVec Ideal S2048x3 .f32 :=
  align o.wc o.iv (state o h k).1 (state o h k).2

section Rows

variable {o : Ops} {W1 : Fin 256 → Row.Vec} {b1 : Row.Vec} {W2 : Fin 256 → Row.Vec} {b2 : Row.Vec} {A : Fin 3 → Row.Vec}
  {v : Fin 3 → Fin 256 → ℝ}

/-- Each row after `k` layers is the reference's path of that row, and its carried square norm is its own. -/
theorem state_at (ho : o.Holds W1 b1 W2 b2 A) (hA : Row.Anchored A v) (h : FVec Ideal S2048x256 .f32) (r : Fin 2048) (k : ℕ) :
    row (state o h k).1 r = Row.path (fun a => Row.unit (A a)) (Row.update W1 b1 W2 b2) (row h r) k
      ∧ (state o h k).2 (ix2 r (0 : Fin 1)) = ∑ d, row (state o h k).1 r d * row (state o h k).1 r d := by
  induction k with
  | zero => exact ⟨rfl, Layer.sq_at h r⟩
  | succ k ih =>
    have e : row (state o h (k + 1)).1 r = _ := Layer.next_at o _ _ ho r
    rw [ih.2, hA.klayer_eq] at e
    refine ⟨by rw [e, ih.1]; rfl, ?_⟩
    rw [e]
    exact (Layer.carry_at o _ _ ho r).trans (by rw [ih.2, hA.knext_eq])

/-- The alignments after `k` layers are the reference's, of its path. -/
theorem aligned_at (ho : o.Holds W1 b1 W2 b2 A) (hA : Row.Anchored A v) (h : FVec Ideal S2048x256 .f32) (r : Fin 2048) (a : Fin 3) (k : ℕ) :
    aligned o h k (ix2 r a)
      = Row.align (fun a => Row.unit (A a)) (Row.path (fun a => Row.unit (A a)) (Row.update W1 b1 W2 b2) (row h r) k) a := by
  have e := state_at ho hA h r k
  unfold aligned
  rw [Layer.align_at o _ _ ho, e.2, hA.kalign_eq, e.1]

end Rows

/-! ### The body's values are these -/

section Values

variable (x0 : Vec Ideal S2048x256 .f32) (x1 : Vec Ideal S256x259 .f32) (x2 : Vec Ideal S1x256 .f32)
  (x3 : Vec Ideal S256x256 .f32) (x4 : Vec Ideal S1x256 .f32) (x5 : Vec Ideal S3x256 .f32)

/-- The operands the body makes of its input blocks. -/
def ops : Ops :=
  ⟨k0_pay98 x0 x1 x2 x3 x4 x5, k0_pay99 x0 x1 x2 x3 x4 x5, k0_pay100 x0 x1 x2 x3 x4 x5, k0_pay101 x0 x1 x2 x3 x4 x5,
    k0_pay102 x0 x1 x2 x3 x4 x5, k0_pay103 x0 x1 x2 x3 x4 x5⟩

/-- The block of rows as the body reads it. -/
def rows : FVec Ideal S2048x256 .f32 := (View.ld x0 r0_0 : Vec Ideal S2048x256 .f32)

/-- The alignments the body stores for layer 0 are those of the rows after no layer. -/
theorem align0 : k0_pay105 x0 x1 x2 x3 x4 x5 = aligned (ops x0 x1 x2 x3 x4 x5) (rows x0) 0 := rfl

/-- The body's rows after one layer. -/
theorem rows1 : k0_pay108 x0 x1 x2 x3 x4 x5 = (state (ops x0 x1 x2 x3 x4 x5) (rows x0) 1).1 := rfl
/-- The body's square norms after one layer. -/
theorem norm1 : k0_pay109 x0 x1 x2 x3 x4 x5 = (state (ops x0 x1 x2 x3 x4 x5) (rows x0) 1).2 := rfl

/-- The alignments the body stores for layer 1 are those of the rows after one layer. -/
theorem align1 : k0_pay111 x0 x1 x2 x3 x4 x5 = aligned (ops x0 x1 x2 x3 x4 x5) (rows x0) 1 := by
  unfold aligned; rw [← rows1, ← norm1]; rfl

/-- The body's rows after two layers. -/
theorem rows2 : k0_pay115 x0 x1 x2 x3 x4 x5 = (state (ops x0 x1 x2 x3 x4 x5) (rows x0) 2).1 := by
  unfold state; rw [← rows1, ← norm1]; rfl
/-- The body's square norms after two layers. -/
theorem norm2 : k0_pay116 x0 x1 x2 x3 x4 x5 = (state (ops x0 x1 x2 x3 x4 x5) (rows x0) 2).2 := by
  unfold state; rw [← rows1, ← norm1]; rfl

/-- The alignments the body stores for layer 2 are those of the rows after two layers. -/
theorem align2 : k0_pay119 x0 x1 x2 x3 x4 x5 = aligned (ops x0 x1 x2 x3 x4 x5) (rows x0) 2 := by
  unfold aligned; rw [← rows2, ← norm2]; rfl

/-- The body's rows after three layers. -/
theorem rows3 : k0_pay123 x0 x1 x2 x3 x4 x5 = (state (ops x0 x1 x2 x3 x4 x5) (rows x0) 3).1 := by
  unfold state; rw [← rows2, ← norm2]; rfl
/-- The body's square norms after three layers. -/
theorem norm3 : k0_pay54 (k0_pay121 x0 x1 x2 x3 x4 x5) (k0_pay122 x0 x1 x2 x3 x4 x5) = (state (ops x0 x1 x2 x3 x4 x5) (rows x0) 3).2 := by
  unfold state; rw [← rows2, ← norm2]; rfl

/-- The alignments the body stores for layer 3 are those of the rows after three layers. -/
theorem align3 : k0_pay125 x0 x1 x2 x3 x4 x5 = aligned (ops x0 x1 x2 x3 x4 x5) (rows x0) 3 := by
  unfold aligned; rw [← rows3, ← norm3]; rfl

/-- The body's rows after four layers. -/
theorem rows4 : k0_pay128 x0 x1 x2 x3 x4 x5 = (state (ops x0 x1 x2 x3 x4 x5) (rows x0) 4).1 := by
  unfold state; rw [← rows3, ← norm3]; rfl
/-- The body's square norms after four layers. -/
theorem norm4 : k0_pay129 x0 x1 x2 x3 x4 x5 = (state (ops x0 x1 x2 x3 x4 x5) (rows x0) 4).2 := by
  unfold state; rw [← rows3, ← norm3]; rfl

/-- The alignments the body stores for layer 4 are those of the rows after four layers. -/
theorem align4 : k0_pay130 x0 x1 x2 x3 x4 x5 = aligned (ops x0 x1 x2 x3 x4 x5) (rows x0) 4 := by
  unfold aligned; rw [← rows4, ← norm4]; rfl

/-- The body's rows after five layers. -/
theorem rows5 : k0_pay83 (k0_pay131 x0 x1 x2 x3 x4 x5) = (state (ops x0 x1 x2 x3 x4 x5) (rows x0) 5).1 := by
  unfold state; rw [← rows4, ← norm4]; rfl
/-- The body's square norms after five layers. -/
theorem norm5 : k0_pay84 (k0_pay131 x0 x1 x2 x3 x4 x5) = (state (ops x0 x1 x2 x3 x4 x5) (rows x0) 5).2 := by
  unfold state; rw [← rows4, ← norm4]; rfl

/-- The alignments the body stores for layer 5 are those of the rows after five layers. -/
theorem align5 : k0_pay132 x0 x1 x2 x3 x4 x5 = aligned (ops x0 x1 x2 x3 x4 x5) (rows x0) 5 := by
  unfold aligned; rw [← rows5, ← norm5]; rfl

/-- The rows the body stores are the rows after six layers. -/
theorem rows6 : k0_pay95 (k0_pay99 x0 x1 x2 x3 x4 x5) (k0_pay100 x0 x1 x2 x3 x4 x5) (k0_pay101 x0 x1 x2 x3 x4 x5) (k0_pay102 x0 x1 x2 x3 x4 x5)
    (k0_pay83 (k0_pay131 x0 x1 x2 x3 x4 x5)) (k0_pay84 (k0_pay131 x0 x1 x2 x3 x4 x5)) (k0_pay91 (k0_pay98 x0 x1 x2 x3 x4 x5) (k0_pay131 x0 x1 x2 x3 x4 x5))
    (k0_pay92 (k0_pay98 x0 x1 x2 x3 x4 x5) (k0_pay103 x0 x1 x2 x3 x4 x5) (k0_pay131 x0 x1 x2 x3 x4 x5))
    (k0_pay94 (k0_pay98 x0 x1 x2 x3 x4 x5) (k0_pay103 x0 x1 x2 x3 x4 x5) (k0_pay131 x0 x1 x2 x3 x4 x5)) (Scalar.ofBits .f32 0x40000000#32)
    = (state (ops x0 x1 x2 x3 x4 x5) (rows x0) 6).1 := by
  unfold state; rw [← rows5, ← norm5]; rfl

/-! ### The operands' entries, and the rows', from the input blocks' -/

/-- The operands hold what the input blocks hold. -/
theorem ops_holds {W1 : Fin 256 → Row.Vec} {b1 : Row.Vec} {W2 : Fin 256 → Row.Vec} {b2 : Row.Vec} {A : Fin 3 → Row.Vec}
    (h1 : ∀ j k : Fin 256, x1 (ix2 j (⟨k, by omega⟩ : Fin 259)) = W1 k j)
    (hA : ∀ (j : Fin 256) (a : Fin 3), x1 (ix2 j (⟨256 + a, by omega⟩ : Fin 259)) = A a j)
    (h2 : ∀ k : Fin 256, x2 (ix2 (0 : Fin 1) k) = b1 k) (h3 : ∀ k d : Fin 256, x3 (ix2 k d) = W2 d k)
    (h4 : ∀ k : Fin 256, x4 (ix2 (0 : Fin 1) k) = b2 k) (h5 : ∀ (a : Fin 3) (d : Fin 256), x5 (ix2 a d) = A a d) :
    (ops x0 x1 x2 x3 x4 x5).Holds W1 b1 W2 b2 A where
  wc1 j k := by pointwise [ops, k0_pay98, k0_pay4]; exact h1 j k
  wcA j a := by pointwise [ops, k0_pay98, k0_pay4]; exact hA j a
  w2 k d := by pointwise [ops, k0_pay99, k0_pay5]; exact h3 k d
  b1 k := by pointwise [ops, k0_pay100, k0_pay6]; exact h2 k
  b2 k := by pointwise [ops, k0_pay101, k0_pay7]; exact h4 k
  an a d := by
    pointwise [ops, k0_pay102, k0_pay10, k0_pay9, k0_pay8]
    simp only [h5]
    exact congrArg (fun z => A a d * Ideal.rsqrt (max (∑ x, A a x * A a x) z)) Layer.named_eq
  iv a := by
    pointwise [ops, k0_pay103, k0_pay11, k0_pay9, k0_pay8]
    simp only [h5]
    exact congrArg (fun z => Ideal.rsqrt (max (∑ x, A a x * A a x) z)) Layer.named_eq

/-- The rows are the input block's. -/
theorem rows_at (r : Fin 2048) (d : Fin 256) : row (rows x0) r d = x0 (ix2 r d) := by
  pointwise [row, rows]

/-- What the body leaves in the block of rows: the rows after six layers. -/
theorem out6_eq : out0_6 x0 x1 x2 x3 x4 x5 = (state (ops x0 x1 x2 x3 x4 x5) (rows x0) 6).1 := by
  rw [← rows6]
  exact View.canon_cons_unit_lit _ _ _ (by decide)

/-- A slice of the alignments' block, from a layer's alignments. -/
def alignSlice (w : FVec Ideal S2048x3 .f32) : FVec Ideal S3x2048 .f32 := transpose S3x2048 [1, 0] w transposes_S2048x3_p1_0_S3x2048

/-- A slice of the divergences' block. -/
def diveSlice (w : FVec Ideal S2048x3 .f32) : FVec Ideal S3x2048 .f32 := subf (broadcast S3x2048 Layer.cOne) (alignSlice w)

/-- A slice of the tensions' block. -/
def tenseSlice (w : FVec Ideal S2048x3 .f32) : FVec Ideal S3x2048 .f32 := mulf (diveSlice w) (diveSlice w)

/-- Arrays stacked, at an index. -/
theorem stack_at (g : Fin 6 → FVec Ideal S3x2048 .f32) (l : Fin 6) (a : Fin 3) (r : Fin 2048) :
    stackAlong0 g (ix3 l a r) = g l (ix2 a r) := by
  unfold stackAlong0
  congr 1
  funext k
  fin_cases k <;> rfl

/-- Six stores, the `l`-th of `g l` into slice `l`, leave the six arrays stacked. -/
theorem canon_slices (g : Fin 6 → FVec Ideal S3x2048 .f32) (p : Fin 6 → FVec Ideal S1x3x2048 .f32)
    (hp : ∀ l, p l = shapeCast S1x3x2048 (g l) shapeCasts_S3x2048_S1x3x2048) :
    View.canon ([⟨r0_10, p 5⟩, ⟨r0_9, p 4⟩, ⟨r0_8, p 3⟩, ⟨r0_7, p 2⟩, ⟨r0_6, p 1⟩, ⟨r0_5, p 0⟩] : List (View.Piece (Elt Ideal) S6x3x2048 .f32))
      = stackAlong0 g := by
  funext y
  simp only [hp]
  canon_tiles x h
  case piece0 => exact stack_piece g 5 _ x y h0 (by intro a; fin_cases a <;> assumption)
  case piece1 => exact stack_piece g 4 _ x y h0 (by intro a; fin_cases a <;> assumption)
  case piece2 => exact stack_piece g 3 _ x y h0 (by intro a; fin_cases a <;> assumption)
  case piece3 => exact stack_piece g 2 _ x y h0 (by intro a; fin_cases a <;> assumption)
  case piece4 => exact stack_piece g 1 _ x y h0 (by intro a; fin_cases a <;> assumption)
  case piece5 => exact stack_piece g 0 _ x y (by simpa using h0) (by intro a; fin_cases a <;> assumption)

/-- The alignments' block holds the six layers' slices. -/
theorem out7_eq : out0_7 x0 x1 x2 x3 x4 x5 = stackAlong0 fun l : Fin 6 => alignSlice (aligned (ops x0 x1 x2 x3 x4 x5) (rows x0) l) := by
  unfold out0_7
  rw [align0, align1, align2, align3, align4, align5]
  generalize aligned (ops x0 x1 x2 x3 x4 x5) (rows x0) = w
  exact canon_slices (fun l => alignSlice (w l)) (fun l => shapeCast S1x3x2048 (alignSlice (w l)) shapeCasts_S3x2048_S1x3x2048) fun _ => rfl

/-- The divergences' block holds the six layers' slices. -/
theorem out8_eq : out0_8 x0 x1 x2 x3 x4 x5 = stackAlong0 fun l : Fin 6 => diveSlice (aligned (ops x0 x1 x2 x3 x4 x5) (rows x0) l) := by
  unfold out0_8 k0_pay133 k0_pay110
  rw [align0, align1, align2, align3, align4, align5]
  generalize aligned (ops x0 x1 x2 x3 x4 x5) (rows x0) = w
  exact canon_slices (fun l => diveSlice (w l)) (fun l => shapeCast S1x3x2048 (diveSlice (w l)) shapeCasts_S3x2048_S1x3x2048) fun _ => rfl

/-- The tensions' block holds the six layers' slices. -/
theorem out9_eq : out0_9 x0 x1 x2 x3 x4 x5 = stackAlong0 fun l : Fin 6 => tenseSlice (aligned (ops x0 x1 x2 x3 x4 x5) (rows x0) l) := by
  unfold out0_9 k0_pay133 k0_pay110
  rw [align0, align1, align2, align3, align4, align5]
  generalize aligned (ops x0 x1 x2 x3 x4 x5) (rows x0) = w
  exact canon_slices (fun l => tenseSlice (w l)) (fun l => shapeCast S1x3x2048 (tenseSlice (w l)) shapeCasts_S3x2048_S1x3x2048) fun _ => rfl

/-- An entry of the alignments' block. -/
theorem out7_at (l : Fin 6) (a : Fin 3) (r : Fin 2048) :
    out0_7 x0 x1 x2 x3 x4 x5 (ix3 l a r) = aligned (ops x0 x1 x2 x3 x4 x5) (rows x0) l (ix2 r a) := by
  rw [out7_eq, stack_at]
  pointwise [alignSlice]

/-- An entry of the divergences' block. -/
theorem out8_at (l : Fin 6) (a : Fin 3) (r : Fin 2048) :
    out0_8 x0 x1 x2 x3 x4 x5 (ix3 l a r) = 1 - aligned (ops x0 x1 x2 x3 x4 x5) (rows x0) l (ix2 r a) := by
  rw [out8_eq, stack_at]
  pointwise [diveSlice, alignSlice]

/-- An entry of the tensions' block. -/
theorem out9_at (l : Fin 6) (a : Fin 3) (r : Fin 2048) :
    out0_9 x0 x1 x2 x3 x4 x5 (ix3 l a r)
      = (1 - aligned (ops x0 x1 x2 x3 x4 x5) (rows x0) l (ix2 r a)) * (1 - aligned (ops x0 x1 x2 x3 x4 x5) (rows x0) l (ix2 r a)) := by
  rw [out9_eq, stack_at]
  pointwise [tenseSlice, diveSlice, alignSlice]

end Values

end Cert.KernelIdeal.Block

end
-- ==== Proof.Spec.lean ====
/- The four results, as functions of the arguments read entry by entry: what both programs are shown to compute. -/
module

public import proofs.«01_k».proof.Proof.Row

@[expose] public section

noncomputable section

namespace Cert.Spec

/-- The arguments' entries: rows, weights, biases and anchors. -/
structure Inputs where
  /-- the initial rows -/
  H : Fin 65536 → Row.Vec
  /-- first weights -/
  W1 : Fin 256 → Row.Vec
  /-- first bias -/
  b1 : Row.Vec
  /-- second weights -/
  W2 : Fin 256 → Row.Vec
  /-- second bias -/
  b2 : Row.Vec
  /-- the three anchors -/
  A : Fin 3 → Row.Vec

/-- Row `i` after `k` layers. -/
def path (x : Inputs) (i : Fin 65536) (k : ℕ) : Row.Vec :=
  Row.path (fun a => Row.unit (x.A a)) (Row.update x.W1 x.b1 x.W2 x.b2) (x.H i) k

/-- The alignment of row `i` with anchor `a` in layer `l`. -/
def align (x : Inputs) (l : ℕ) (i : Fin 65536) (a : Fin 3) : EReal := Row.align (fun a => Row.unit (x.A a)) (path x i l) a

/-- The divergence of row `i` from anchor `a` in layer `l`. -/
def dive (x : Inputs) (l : ℕ) (i : Fin 65536) (a : Fin 3) : EReal := 1 - align x l i a

/-- The tension between row `i` and anchor `a` in layer `l`. -/
def tense (x : Inputs) (l : ℕ) (i : Fin 65536) (a : Fin 3) : EReal := dive x l i a * dive x l i a

end Cert.Spec

end
-- ==== Proof.Inputs.lean ====
/- What the kernel's input blocks hold: entries of the arguments, through the host operations before the launch. -/
module

public import proofs.«01_k».proof.Proof.Block
public import proofs.«01_k».proof.Proof.Spec
public import Idealize.ShloMosaic.Lib.Claim
public import Idealize.ShloMosaic.Lib.StableHlo.ReadAt

@[expose] public section

set_option maxRecDepth 16384

noncomputable section

namespace Cert.KernelIdeal.Inputs

open Idealize.ShloMosaic Idealize.ShloMosaic.TcCoe Cert.KernelIdeal Cert.KernelIdeal.Gen Facts

variable (m : (ℓ : Loc nD τ sig) → Buf (Elt Ideal) ℓ) (c : Dev nD)

/-- The arguments' entries, read out of the memory at the launch. -/
def inputs : Spec.Inputs where
  H i d := (m ((c : Thread nD τ).loc main_arg0) : FVec Ideal S65536x256 .f32) (ix2 i d)
  W1 k j := (m ((c : Thread nD τ).loc main_arg1) : FVec Ideal S256x256 .f32) (ix2 k j)
  b1 k := (m ((c : Thread nD τ).loc main_arg2) : FVec Ideal S256 .f32) (ix1 k)
  W2 d k := (m ((c : Thread nD τ).loc main_arg3) : FVec Ideal S256x256 .f32) (ix2 d k)
  b2 d := (m ((c : Thread nD τ).loc main_arg4) : FVec Ideal S256 .f32) (ix1 d)
  A a d := match a with
    | 0 => (m ((c : Thread nD τ).loc main_arg5) : FVec Ideal S256 .f32) (ix1 d)
    | 1 => (m ((c : Thread nD τ).loc main_arg6) : FVec Ideal S256 .f32) (ix1 d)
    | 2 => (m ((c : Thread nD τ).loc main_arg7) : FVec Ideal S256 .f32) (ix1 d)

/-- The blocks' placements. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![0, 0, t.val]
    ∧ win0_8.index t = ![0, 0, t.val] ∧ win0_9.index t = ![0, 0, t.val] := by
  decide +kernel

/-- Row `r` of block `t` is row `2048 t + r` of the array. -/
def at_ (t : Fin cfg0.N) (r : Fin 2048) : Fin 65536 := ⟨2048 * t.val + r.val, by have := t.isLt; have h : cfg0.N = 32 := N_0; omega⟩

/-- The block of rows. -/
theorem block0 (t : Fin cfg0.N) (r : Fin 2048) (d : Fin 256) :
    (iblk m c 0 t : Vec Ideal S2048x256 .f32) (ix2 r d) = (inputs m c).H (at_ t r) d := by
  unfold inputs at_
  blk_ext [iblk, V_main_arg0, idx t]

/-- The first weights, transposed, in the first 256 columns of the joined operand. -/
theorem block1 (t : Fin cfg0.N) (j k : Fin 256) :
    (iblk m c 1 t : Vec Ideal S256x259 .f32) (ix2 j (⟨k, by omega⟩ : Fin 259)) = (inputs m c).W1 k j := by
  have e : (iblk m c 1 t : Vec Ideal S256x259 .f32) (ix2 j (⟨k, by omega⟩ : Fin 259)) = (V m c main_v6 : Vec Ideal S256x259 .f32) (ix2 j (⟨k, by omega⟩ : Fin 259)) := by
    blk_ext [iblk, idx t]
  rw [e]
  unfold V
  after_reads_at
  rfl

/-- The anchors, transposed, in its last three columns. -/
theorem blockA (t : Fin cfg0.N) (j : Fin 256) (a : Fin 3) :
    (iblk m c 1 t : Vec Ideal S256x259 .f32) (ix2 j (⟨256 + a, by omega⟩ : Fin 259)) = (inputs m c).A a j := by
  have e : (iblk m c 1 t : Vec Ideal S256x259 .f32) (ix2 j (⟨256 + a, by omega⟩ : Fin 259)) = (V m c main_v6 : Vec Ideal S256x259 .f32) (ix2 j (⟨256 + a, by omega⟩ : Fin 259)) := by
    blk_ext [iblk, idx t]
  rw [e]
  show StableHlo.after hostOps0 _ _ _ = _
  after_results
  fin_cases a <;> (pointwise; repeat (first | rw [StableHlo.unary_result] | (rw [StableHlo.unary_result_ne]; rotate_left; decide))) <;>
    (pointwise; rfl)

/-- The first bias. -/
theorem block2 (t : Fin cfg0.N) (k : Fin 256) :
    (iblk m c 2 t : Vec Ideal S1x256 .f32) (ix2 (0 : Fin 1) k) = (inputs m c).b1 k := by
  have e : (iblk m c 2 t : Vec Ideal S1x256 .f32) (ix2 (0 : Fin 1) k) = (V m c main_v7 : Vec Ideal S1x256 .f32) (ix2 (0 : Fin 1) k) := by
    blk_ext [iblk, idx t]
  rw [e]
  unfold V
  after_reads_at
  rfl

/-- The second weights, transposed. -/
theorem block3 (t : Fin cfg0.N) (k d : Fin 256) :
    (iblk m c 3 t : Vec Ideal S256x256 .f32) (ix2 k d) = (inputs m c).W2 d k := by
  have e : (iblk m c 3 t : Vec Ideal S256x256 .f32) (ix2 k d) = (V m c main_v9 : Vec Ideal S256x256 .f32) (ix2 k d) := by
    blk_ext [iblk, idx t]
  rw [e]
  unfold V
  after_reads_at
  rfl

/-- The second bias. -/
theorem block4 (t : Fin cfg0.N) (d : Fin 256) :
    (iblk m c 4 t : Vec Ideal S1x256 .f32) (ix2 (0 : Fin 1) d) = (inputs m c).b2 d := by
  have e : (iblk m c 4 t : Vec Ideal S1x256 .f32) (ix2 (0 : Fin 1) d) = (V m c main_v8 : Vec Ideal S1x256 .f32) (ix2 (0 : Fin 1) d) := by
    blk_ext [iblk, idx t]
  rw [e]
  unfold V
  after_reads_at
  rfl

/-- The anchors. -/
theorem block5 (t : Fin cfg0.N) (a : Fin 3) (d : Fin 256) :
    (iblk m c 5 t : Vec Ideal S3x256 .f32) (ix2 a d) = (inputs m c).A a d := by
  have e : (iblk m c 5 t : Vec Ideal S3x256 .f32) (ix2 a d) = (V m c main_v3 : Vec Ideal S3x256 .f32) (ix2 a d) := by
    blk_ext [iblk, idx t]
  rw [e]
  show StableHlo.after hostOps0 _ _ _ = _
  after_results
  fin_cases a <;> (pointwise; repeat (first | rw [StableHlo.unary_result] | (rw [StableHlo.unary_result_ne]; rotate_left; decide))) <;>
    (pointwise; rfl)

/-- The body's operands at point `t` hold the arguments' entries. -/
theorem holds (t : Fin cfg0.N) :
    (Block.ops (iblk m c 0 t) (iblk m c 1 t) (iblk m c 2 t) (iblk m c 3 t) (iblk m c 4 t) (iblk m c 5 t)).Holds
      (inputs m c).W1 (inputs m c).b1 (inputs m c).W2 (inputs m c).b2 (inputs m c).A :=
  Block.ops_holds _ _ _ _ _ _ (block1 m c t) (blockA m c t) (block2 m c t) (block3 m c t) (block4 m c t) (block5 m c t)

/-- Row `r` of the body's rows at point `t` is row `2048 t + r` of the argument. -/
theorem row_at (t : Fin cfg0.N) (r : Fin 2048) :
    Layer.row (Block.rows (iblk m c 0 t)) r = (inputs m c).H (at_ t r) :=
  funext fun d => (Block.rows_at _ r d).trans (block0 m c t r d)

section Results

variable {v : Fin 3 → Fin 256 → ℝ} (hA : Row.Anchored (inputs m c).A v)

include hA

/-- The rows' block written at point `t`. -/
theorem rows_block (t : Fin cfg0.N) (r : Fin 2048) (d : Fin 256) :
    out0_6 (iblk m c 0 t) (iblk m c 1 t) (iblk m c 2 t) (iblk m c 3 t) (iblk m c 4 t) (iblk m c 5 t) (ix2 r d)
      = Spec.path (inputs m c) (at_ t r) 6 d := by
  rw [Block.out6_eq]
  refine (congrFun (Block.state_at (holds m c t) hA _ r 6).1 d).trans ?_
  rw [row_at]
  rfl

/-- The alignments the body has at point `t`. -/
theorem aligned_block (t : Fin cfg0.N) (l : ℕ) (r : Fin 2048) (a : Fin 3) :
    Block.aligned (Block.ops (iblk m c 0 t) (iblk m c 1 t) (iblk m c 2 t) (iblk m c 3 t) (iblk m c 4 t) (iblk m c 5 t))
      (Block.rows (iblk m c 0 t)) l (ix2 r a) = Spec.align (inputs m c) l (at_ t r) a := by
  rw [Block.aligned_at (holds m c t) hA, row_at]
  rfl

end Results

end Cert.KernelIdeal.Inputs

end
-- ==== Proof.KernelArray.lean ====
/- What the kernel's four result arrays hold: the six layers of every row of the argument. -/
module

public import proofs.«01_k».proof.Proof.Inputs

@[expose] public section

set_option maxRecDepth 16384

noncomputable section

namespace Cert.KernelIdeal.KernelArray

open Idealize.ShloMosaic Idealize.ShloMosaic.TcCoe Cert.KernelIdeal Cert.KernelIdeal.Gen Facts
open Cert.KernelIdeal.Inputs (inputs idx at_)

variable (m : (ℓ : Loc nD τ sig) → Buf (Elt Ideal) ℓ) (c : Dev nD)
/-- The array of window 6, from an entry of each block. -/
theorem array6 (G : FVec Ideal S65536x256 .f32)
    (h : ∀ (t : Fin cfg0.N) (r : Fin 2048) (d : Fin 256),
      out0_6 (iblk m c 0 t) (iblk m c 1 t) (iblk m c 2 t) (iblk m c 3 t) (iblk m c 4 t) (iblk m c 5 t) (ix2 r d) = G (ix2 (at_ t r) d)) :
    (dats m 0 c).arrAt 6 cfg0.N = G := by
  refine (dats m 0 c).arrAt_eq_of_covers 6 _ (by decide +kernel) fun t hf y => ?_
  blk_simp
  rw [after0_6]
  idx_vars y
  rw [h t y0 y1]
  unfold at_
  blk_ext [idx t]

/-- The array of window 7, from an entry of each block. -/
theorem array7 (G : FVec Ideal S6x3x65536 .f32)
    (h : ∀ (t : Fin cfg0.N) (l : Fin 6) (a : Fin 3) (r : Fin 2048),
      out0_7 (iblk m c 0 t) (iblk m c 1 t) (iblk m c 2 t) (iblk m c 3 t) (iblk m c 4 t) (iblk m c 5 t) (ix3 l a r) = G (ix3 l a (at_ t r))) :
    (dats m 0 c).arrAt 7 cfg0.N = G := by
  refine (dats m 0 c).arrAt_eq_of_covers 7 _ (by decide +kernel) fun t hf y => ?_
  blk_simp
  rw [after0_7]
  idx_vars y
  rw [h t y0 y1 y2]
  unfold at_
  blk_ext [idx t]

/-- The array of window 8, from an entry of each block. -/
theorem array8 (G : FVec Ideal S6x3x65536 .f32)
    (h : ∀ (t : Fin cfg0.N) (l : Fin 6) (a : Fin 3) (r : Fin 2048),
      out0_8 (iblk m c 0 t) (iblk m c 1 t) (iblk m c 2 t) (iblk m c 3 t) (iblk m c 4 t) (iblk m c 5 t) (ix3 l a r) = G (ix3 l a (at_ t r))) :
    (dats m 0 c).arrAt 8 cfg0.N = G := by
  refine (dats m 0 c).arrAt_eq_of_covers 8 _ (by decide +kernel) fun t hf y => ?_
  blk_simp
  rw [after0_8]
  idx_vars y
  rw [h t y0 y1 y2]
  unfold at_
  blk_ext [idx t]

/-- The array of window 9, from an entry of each block. -/
theorem array9 (G : FVec Ideal S6x3x65536 .f32)
    (h : ∀ (t : Fin cfg0.N) (l : Fin 6) (a : Fin 3) (r : Fin 2048),
      out0_9 (iblk m c 0 t) (iblk m c 1 t) (iblk m c 2 t) (iblk m c 3 t) (iblk m c 4 t) (iblk m c 5 t) (ix3 l a r) = G (ix3 l a (at_ t r))) :
    (dats m 0 c).arrAt 9 cfg0.N = G := by
  refine (dats m 0 c).arrAt_eq_of_covers 9 _ (by decide +kernel) fun t hf y => ?_
  blk_simp
  rw [after0_9]
  idx_vars y
  rw [h t y0 y1 y2]
  unfold at_
  blk_ext [idx t]

variable {v : Fin 3 → Fin 256 → ℝ} (hA : Row.Anchored (inputs m c).A v)

include hA

/-- The rows' array. -/
theorem rows_final : (dats m 0 c).arrAt 6 cfg0.N = (fun y => Spec.path (inputs m c) (y 0) 6 (y 1) : FVec Ideal S65536x256 .f32) :=
  array6 m c _ fun t r d => Inputs.rows_block m c hA t r d

/-- The alignments' array. -/
theorem align_final : (dats m 0 c).arrAt 7 cfg0.N = (fun y => Spec.align (inputs m c) (y 0 : Fin 6) (y 2) (y 1) : FVec Ideal S6x3x65536 .f32) :=
  array7 m c _ fun t l a r => (Block.out7_at _ _ _ _ _ _ l a r).trans (Inputs.aligned_block m c hA t l r a)

/-- The divergences' array. -/
theorem dive_final : (dats m 0 c).arrAt 8 cfg0.N = (fun y => Spec.dive (inputs m c) (y 0 : Fin 6) (y 2) (y 1) : FVec Ideal S6x3x65536 .f32) :=
  array8 m c _ fun t l a r => (Block.out8_at _ _ _ _ _ _ l a r).trans (congrArg (1 - ·) (Inputs.aligned_block m c hA t l r a))

/-- The tensions' array. -/
theorem tense_final : (dats m 0 c).arrAt 9 cfg0.N = (fun y => Spec.tense (inputs m c) (y 0 : Fin 6) (y 2) (y 1) : FVec Ideal S6x3x65536 .f32) :=
  array9 m c _ fun t l a r => (Block.out9_at _ _ _ _ _ _ l a r).trans (congrArg (fun z : EReal => (1 - z) * (1 - z)) (Inputs.aligned_block m c hA t l r a))

end Cert.KernelIdeal.KernelArray

end
-- ==== Proof.KernelRun.lean ====
/- The kernel's run: its four results are the recurrence's rows and traces. -/
module

public import proofs.«01_k».proof.Proof.KernelArray
public import Idealize.ShloMosaic.Lib.Pointwise
public import Idealize.ShloMosaic.Lib.Claim

@[expose] public section

set_option maxRecDepth 16384

noncomputable section

namespace Cert.KernelIdeal.KernelRun

open Idealize.ShloMosaic Idealize.ShloMosaic.TcCoe Idealize.SL.Sem Cert.KernelIdeal Cert.KernelIdeal.Gen Cert.KernelIdeal.Inputs Cert.KernelIdeal.KernelArray Facts

variable (m : (ℓ : Loc nD τ sig) → Buf (Elt Ideal) ℓ) (ρ : Dev nD → PrngReg)

/-- A trace with its last two axes exchanged, as the lines after the region leave it. -/
def turned (z : FVec Ideal S6x3x65536 .f32) : FVec Ideal S6x65536x3 .f32 :=
  transpose S6x65536x3 [0, 2, 1] z transposes_S6x3x65536_S6x65536x3_0_2_1

/-- No two windows share an array. -/
theorem windows_apart : Function.Injective (Pipeline.arrRef spec0) := by
  decide

/-- The alignments' result is the alignments' array with its last two axes exchanged. -/
theorem tail_align (c : Dev nD) :
    Pipeline.afterTail₀ cfgs (dats m) 0 (V0 m) [hostOps1] c main_v11 = turned ((dats m 0 c).arrAt 7 cfg0.N) := by
  unfold Pipeline.afterTail₀
  simp only [List.flatten_cons, List.flatten_nil, List.append_nil]
  after_results
  exact congrArg turned (Pipeline.withArrays_arr spec0 windows_apart c (V0 m c) (fun w => (dats m 0 c).arrAt w cfg0.N) 7)

/-- The divergences' result likewise. -/
theorem tail_dive (c : Dev nD) :
    Pipeline.afterTail₀ cfgs (dats m) 0 (V0 m) [hostOps1] c main_v12 = turned ((dats m 0 c).arrAt 8 cfg0.N) := by
  unfold Pipeline.afterTail₀
  simp only [List.flatten_cons, List.flatten_nil, List.append_nil]
  after_results
  exact congrArg turned (Pipeline.withArrays_arr spec0 windows_apart c (V0 m c) (fun w => (dats m 0 c).arrAt w cfg0.N) 8)

/-- The tensions' result likewise. -/
theorem tail_tense (c : Dev nD) :
    Pipeline.afterTail₀ cfgs (dats m) 0 (V0 m) [hostOps1] c main_v13 = turned ((dats m 0 c).arrAt 9 cfg0.N) := by
  unfold Pipeline.afterTail₀
  simp only [List.flatten_cons, List.flatten_nil, List.append_nil]
  after_results
  exact congrArg turned (Pipeline.withArrays_arr spec0 windows_apart c (V0 m c) (fun w => (dats m 0 c).arrAt w cfg0.N) 9)

/-- At anchors that are real and not too short on every device, the kernel's run ends with the rows after six layers and the
    three traces, layer by layer, its arguments unchanged. -/
theorem run (hA : ∀ c : Dev nD, ∃ v, Row.Anchored (inputs m c).A v) :
    θ_run defs (onTc (τ := τ) (main (F := Ideal))) ⟨m, fun _ => 0, ρ⟩ (fun r => ∀ c : Dev nD,
      r.2.mem ((c.tc : Thread nD τ).loc main_v10_0) = (fun y => Spec.path (inputs m c) (y 0) 6 (y 1) : FVec Ideal S65536x256 .f32)
      ∧ r.2.mem ((c.tc : Thread nD τ).loc main_v11) = (fun y => Spec.align (inputs m c) (y 0 : Fin 6) (y 1) (y 2) : FVec Ideal S6x65536x3 .f32)
      ∧ r.2.mem ((c.tc : Thread nD τ).loc main_v12) = (fun y => Spec.dive (inputs m c) (y 0 : Fin 6) (y 1) (y 2) : FVec Ideal S6x65536x3 .f32)
      ∧ r.2.mem ((c.tc : Thread nD τ).loc main_v13) = (fun y => Spec.tense (inputs m c) (y 0 : Fin 6) (y 1) (y 2) : FVec Ideal S6x65536x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  run_from (Gen.run_main m ρ) & (Gen.unchanged m ρ)
  all_goals obtain ⟨v, hv⟩ := hA c
  · exact rows_final m c hv
  · exact (tail_align m c).trans ((congrArg turned (align_final m c hv)).trans (by
      funext y; idx_vars y; unfold turned; pointwise))
  · exact (tail_dive m c).trans ((congrArg turned (dive_final m c hv)).trans (by
      funext y; idx_vars y; unfold turned; pointwise))
  · exact (tail_tense m c).trans ((congrArg turned (tense_final m c hv)).trans (by
      funext y; idx_vars y; unfold turned; pointwise))

end Cert.KernelIdeal.KernelRun

end
-- ==== Proof.RefStep.lean ====
/- What one trip of the reference's loop makes of the carried buffers, read row by row. -/
module

public import proofs.«01_k».proof.Proof.Gen.ReferenceIdeal.Run
public import proofs.«01_k».proof.Proof.Spec
public import Idealize.ShloMosaic.Lib.Pointwise
public import Idealize.ShloMosaic.Lib.IdealHost
public import Idealize.ShloMosaic.Lib.WordCmp
public import Idealize.ShloMosaic.Lib.Tactic.CleanTypes

@[expose] public section

set_option maxRecDepth 16384

noncomputable section

namespace Cert.ReferenceIdeal.RefStep

open Idealize.ShloMosaic Idealize.ShloMosaic.TcCoe Cert.ReferenceIdeal Cert.ReferenceIdeal.Gen Cert.ReferenceIdeal.Value Facts Cert.Consts

/-- What the buffers the loop only reads hold: unit anchors, strengths, weights and biases. -/
structure Fixed (V : Valuation τ sig (Elt Ideal)) (x : Spec.Inputs) : Prop where
  anchors : ∀ (a : Fin 3) (d : Fin 256), (V (Proc.devRef .tc main_v19_0) : FVec Ideal S3x256 .f32) (ix2 a d) = Row.unit (x.A a) d
  str : ∀ a : Fin 3, (V (Proc.devRef .tc main_v19_1) : FVec Ideal S3 .f32) (ix1 a) = (str : EReal)
  W1 : ∀ k j : Fin 256, (V (Proc.devRef .tc main_v19_2) : FVec Ideal S256x256 .f32) (ix2 k j) = x.W1 k j
  b1 : ∀ k : Fin 256, (V (Proc.devRef .tc main_v19_3) : FVec Ideal S256 .f32) (ix1 k) = x.b1 k
  W2 : ∀ d k : Fin 256, (V (Proc.devRef .tc main_v19_4) : FVec Ideal S256x256 .f32) (ix2 d k) = x.W2 d k
  b2 : ∀ d : Fin 256, (V (Proc.devRef .tc main_v19_5) : FVec Ideal S256 .f32) (ix1 d) = x.b2 d

/-- A row of the carried rows. -/
def row (V : Valuation τ sig (Elt Ideal)) (i : Fin 65536) : Row.Vec :=
  fun d => (V (Proc.devRef .tc main_v19_7) : FVec Ideal S65536x256 .f32) (ix2 i d)

variable {V : Valuation τ sig (Elt Ideal)} {x : Spec.Inputs} (hV : Fixed V x)

include hV

/-- The trip's alignments. -/
theorem align_at (i : Fin 65536) (a : Fin 3) :
    (res_main_while0b_v24 V : FVec Ideal S65536x3 .f32) (ix2 i a) = Row.align (fun a => Row.unit (x.A a)) (row V i) a := by
  unfold res_main_while0b_v24
  clean_types
  pointwise
  simp only [id_eq]
  pointwise
  simp only [ofBits_eps]
  simp only [hV.anchors]
  rfl

/-- The trip's divergences. -/
theorem dive_at (i : Fin 65536) (a : Fin 3) :
    (res_main_while0b_v26 V : FVec Ideal S65536x3 .f32) (ix2 i a) = Row.dive (fun a => Row.unit (x.A a)) (row V i) a := by
  unfold res_main_while0b_v26
  clean_types
  pointwise
  exact congrArg (1 - ·) (align_at hV i a)

/-- The trip's differences of a row and an anchor. -/
theorem diff_at (i : Fin 65536) (a : Fin 3) (d : Fin 256) :
    (res_main_while0b_v32 V : FVec Ideal S65536x3x256 .f32) (ix3 i a d) = row V i d - Row.unit (x.A a) d := by
  unfold res_main_while0b_v32
  clean_types
  pointwise
  exact congrArg (row V i d - ·) (hV.anchors a d)

/-- The trip's rows before the clip. -/
theorem fresh_at (i : Fin 65536) (d : Fin 256) :
    (res_main_while0b_v54 V : FVec Ideal S65536x256 .f32) (ix2 i d) = Row.fresh (fun a => Row.unit (x.A a)) (row V i) (Row.update x.W1 x.b1 x.W2 x.b2 (row V i)) d := by
  unfold res_main_while0b_v54
  clean_types
  pointwise
  simp only [id_eq]
  pointwise
  simp only [ofBits_eps]
  simp only [hV.str, hV.W1, hV.b1, hV.W2, hV.b2, dive_at hV, diff_at hV]
  exact congrArg (_ + ·) (Finset.sum_congr rfl fun a _ => mul_comm _ _)

/-- Their norms. -/
theorem norm_at (i : Fin 65536)  :
    (res_main_while0b_v55 V : FVec Ideal S65536x1 .f32) (ix2 i (0 : Fin 1)) = Row.norm (Row.fresh (fun a => Row.unit (x.A a)) (row V i) (Row.update x.W1 x.b1 x.W2 x.b2 (row V i))) := by
  unfold res_main_while0b_v55
  clean_types
  pointwise
  simp only [fresh_at hV]
  rfl

/-- The trip's rows after the clip: one layer. -/
theorem next_at (i : Fin 65536) (d : Fin 256) :
    (step_main_v19_7 V : FVec Ideal S65536x256 .f32) (ix2 i d) = Row.layer (fun a => Row.unit (x.A a)) (row V i) (Row.update x.W1 x.b1 x.W2 x.b2 (row V i)) d := by
  unfold step_main_v19_7
  clean_types
  simp only [id_eq]
  pointwise
  simp only [ofBits_ten, fresh_at hV, norm_at hV]
  rfl

omit hV

/-- A plane written at the trip's counter into a trace: the plane at that layer, the old trace at every other. -/
theorem trace_at (c : BitVec 32) (k : ℕ) (hk : k < 6) (old : FVec Ideal S6x65536x3 .f32) (new : FVec Ideal S65536x3 .f32)
    (l : Fin 6) (i : Fin 65536) (a : Fin 3) (hc : c.toInt = k) :
    (Host.dynamicUpdateSlice old (broadcastInDim S1x65536x3 ![1, 2] bcast_S65536x3_S1x65536x3_1_2 new)
      (fun j => ((![fun _ => c, constantI S_ 32 0#32, constantI S_ 32 0#32] : Fin 3 → IVec S_ 32) j (Shape.Idx.first h_S_)).toInt) updateFits_S6x65536x3_S1x65536x3 : FVec Ideal S6x65536x3 .f32) (ix3 l i a) =
      if (l : ℕ) = k then new (ix2 i a) else old (ix3 l i a) := by
  have hs : S6x65536x3.Slices ![k, 0, 0] S1x65536x3 := ⟨rfl, fun b => by
    fin_cases b
    · show k + 1 ≤ 6; omega
    · show 0 + 65536 ≤ 65536; omega
    · show 0 + 3 ≤ 3; omega⟩
  rw [WordCmp.dynamicUpdateSlice_eq_update old _ _ _ ![k, 0, 0] hs (by
    intro j
    fin_cases j
    · exact hc
    · rfl
    · rfl)]
  rw [updateSlice_apply]
  by_cases hl : (l : ℕ) = k
  · subst hl
    rw [dif_pos (by
      intro b
      fin_cases b
      · show (l : ℕ) ≤ l ∧ (l : ℕ) < l + 1; omega
      · show 0 ≤ (i : ℕ) ∧ (i : ℕ) < 0 + 65536; omega
      · show 0 ≤ (a : ℕ) ∧ (a : ℕ) < 0 + 3; omega), if_pos rfl]
    pointwise
  · rw [dif_neg (by
      intro h
      have h0 : k ≤ (l : ℕ) ∧ (l : ℕ) < k + 1 := h 0
      omega), if_neg hl]

/-- The invariant of the loop after `k` trips: the fixed buffers, the counter, the rows after `k` layers, and the
    traces of every layer already made. -/
structure Made (V : Valuation τ sig (Elt Ideal)) (x : Spec.Inputs) (k : ℕ) : Prop extends Fixed V x where
  ctr : (V (Proc.devRef .tc main_v19_6) : IVec S_ 32) = fun _ => BitVec.ofNat 32 k
  rows : ∀ i : Fin 65536, row V i = Spec.path x i k
  aligns : ∀ (l : Fin 6) (i : Fin 65536) (a : Fin 3), (l : ℕ) < k →
    (V (Proc.devRef .tc main_v19_8) : FVec Ideal S6x65536x3 .f32) (ix3 l i a) = Spec.align x l i a
  dives : ∀ (l : Fin 6) (i : Fin 65536) (a : Fin 3), (l : ℕ) < k →
    (V (Proc.devRef .tc main_v19_9) : FVec Ideal S6x65536x3 .f32) (ix3 l i a) = Spec.dive x l i a
  tenses : ∀ (l : Fin 6) (i : Fin 65536) (a : Fin 3), (l : ℕ) < k →
    (V (Proc.devRef .tc main_v19_10) : FVec Ideal S6x65536x3 .f32) (ix3 l i a) = Spec.tense x l i a

/-- One trip keeps the invariant. -/
theorem Made.step {k : ℕ} (h : Made V x k) (hk : k < 6) : Made (STEP V) x (k + 1) where
  anchors := by rw [STEP_main_v19_0]; exact h.anchors
  str := by rw [STEP_main_v19_1]; exact h.str
  W1 := by rw [STEP_main_v19_2]; exact h.W1
  b1 := by rw [STEP_main_v19_3]; exact h.b1
  W2 := by rw [STEP_main_v19_4]; exact h.W2
  b2 := by rw [STEP_main_v19_5]; exact h.b2
  ctr := by
    rw [STEP_main_v19_6]
    show addi (V (Proc.devRef .tc main_v19_6) : IVec S_ 32) (constantI S_ 32 1#32) = _
    rw [h.ctr]
    funext j
    exact (BitVec.ofNat_add k 1).symm
  rows i := by
    funext d
    unfold row
    rw [STEP_main_v19_7, next_at h.toFixed, h.rows]
    rfl
  aligns l i a hl := by
    rw [STEP_main_v19_8]
    unfold step_main_v19_8
    simp only [id_eq]
    rw [h.ctr]
    refine (trace_at (BitVec.ofNat 32 k) k hk _ _ l i a (by interval_cases k <;> rfl)).trans ?_
    split_ifs with e
    · rw [align_at h.toFixed, h.rows, ← e]; rfl
    · exact h.aligns l i a (by omega)
  dives l i a hl := by
    rw [STEP_main_v19_9]
    unfold step_main_v19_9
    simp only [id_eq]
    rw [h.ctr]
    refine (trace_at (BitVec.ofNat 32 k) k hk _ _ l i a (by interval_cases k <;> rfl)).trans ?_
    split_ifs with e
    · rw [dive_at h.toFixed, h.rows, ← e]; rfl
    · exact h.dives l i a (by omega)
  tenses l i a hl := by
    rw [STEP_main_v19_10]
    unfold step_main_v19_10
    simp only [id_eq]
    rw [h.ctr]
    refine (trace_at (BitVec.ofNat 32 k) k hk _ _ l i a (by interval_cases k <;> rfl)).trans ?_
    split_ifs with e
    · have hd := dive_at h.toFixed i a
      rw [h.rows, ← e] at hd
      exact congrArg₂ (fun p q : EReal => p * q) hd hd
    · exact h.tenses l i a (by omega)

/-- Any number of trips up to six, from the invariant at no trip. -/
theorem Made.iterate (h : Made V x 0) : ∀ k ≤ 6, Made (STEP^[k] V) x k
  | 0, _ => h
  | k + 1, hk => by
    rw [Function.iterate_succ_apply']
    exact (Made.iterate h k (by omega)).step (by omega)

end Cert.ReferenceIdeal.RefStep

end
-- ==== Proof.Reference.lean ====
/- What the reference computes: its four results are the recurrence's rows and traces. -/
module

public import proofs.«01_k».proof.Proof.RefStep
public import Idealize.ShloMosaic.Lib.StableHlo.ReadAt

@[expose] public section

set_option maxRecDepth 16384

noncomputable section

namespace Cert.ReferenceIdeal.Reference

open Idealize.ShloMosaic Idealize.ShloMosaic.TcCoe Idealize.ShloMosaic.StableHlo Cert.ReferenceIdeal Cert.ReferenceIdeal.Gen Cert.ReferenceIdeal.Value Facts Cert.Consts

variable (m : (ℓ : Loc nD τ sig) → Buf (Elt Ideal) ℓ) (c : Dev nD)

/-- The arguments' entries, read out of the memory at the launch. -/
def inputs : Spec.Inputs where
  H i d := (m ((c : Thread nD τ).loc main_arg0) : FVec Ideal S65536x256 .f32) (ix2 i d)
  W1 k j := (m ((c : Thread nD τ).loc main_arg1) : FVec Ideal S256x256 .f32) (ix2 k j)
  b1 k := (m ((c : Thread nD τ).loc main_arg2) : FVec Ideal S256 .f32) (ix1 k)
  W2 d k := (m ((c : Thread nD τ).loc main_arg3) : FVec Ideal S256x256 .f32) (ix2 d k)
  b2 d := (m ((c : Thread nD τ).loc main_arg4) : FVec Ideal S256 .f32) (ix1 d)
  A a d := match a with
    | 0 => (m ((c : Thread nD τ).loc main_arg5) : FVec Ideal S256 .f32) (ix1 d)
    | 1 => (m ((c : Thread nD τ).loc main_arg6) : FVec Ideal S256 .f32) (ix1 d)
    | 2 => (m ((c : Thread nD τ).loc main_arg7) : FVec Ideal S256 .f32) (ix1 d)

/-- At the loop's entry: the first weights, as the argument has them. -/
theorem entry_W1 (k j : Fin 256) :
    (entryContents preI m c (Proc.devRef .tc main_v19_2) : FVec Ideal S256x256 .f32) (ix2 k j) = (inputs m c).W1 k j := by
  simp only [entryContents, afterL_cons, afterL_nil]
  after_reads_simp
  rfl

/-- At the loop's entry: the first bias, as the argument has it. -/
theorem entry_b1 (k : Fin 256) :
    (entryContents preI m c (Proc.devRef .tc main_v19_3) : FVec Ideal S256 .f32) (ix1 k) = (inputs m c).b1 k := by
  simp only [entryContents, afterL_cons, afterL_nil]
  after_reads_simp
  rfl

/-- At the loop's entry: the second weights, as the argument has them. -/
theorem entry_W2 (k j : Fin 256) :
    (entryContents preI m c (Proc.devRef .tc main_v19_4) : FVec Ideal S256x256 .f32) (ix2 k j) = (inputs m c).W2 k j := by
  simp only [entryContents, afterL_cons, afterL_nil]
  after_reads_simp
  rfl

/-- At the loop's entry: the second bias, as the argument has it. -/
theorem entry_b2 (k : Fin 256) :
    (entryContents preI m c (Proc.devRef .tc main_v19_5) : FVec Ideal S256 .f32) (ix1 k) = (inputs m c).b2 k := by
  simp only [entryContents, afterL_cons, afterL_nil]
  after_reads_simp
  rfl

/-- At the loop's entry: the rows, as the argument has them. -/
theorem entry_rows (i : Fin 65536) (d : Fin 256) :
    (entryContents preI m c (Proc.devRef .tc main_v19_7) : FVec Ideal S65536x256 .f32) (ix2 i d) = (inputs m c).H i d := by
  simp only [entryContents, afterL_cons, afterL_nil]
  after_reads_simp
  rfl

/-- At the loop's entry: every strength is the one constant. -/
theorem entry_str (a : Fin 3) :
    (entryContents preI m c (Proc.devRef .tc main_v19_1) : FVec Ideal S3 .f32) (ix1 a) = (str : EReal) := by
  simp only [entryContents, afterL_cons, afterL_nil]
  after_reads_simp
  exact ofBits_str

/-- An anchor over the larger of the constant and its norm, as a row of a matrix of one row. -/
def unitOf (w : FVec Ideal S256 .f32) : FVec Ideal S1x256 .f32 :=
  broadcastInDim S1x256 ![1] bcast_S256_S1x256_1
    (Host.divf w (broadcastInDim S256 ![0] bcast_S1_S256_0
      (maximumf (broadcastInDim S1 ![] bcast_S_S1 (constant S_ .f32 0x2B8CBCCC#32))
        (Host.sqrt (broadcastInDim S1 ![] bcast_S_S1
          (Host.reduceAdd (mulf w w) (constant S_ .f32 0x00000000#32) reducesTo_S256_S_d0 h_S_))))))

/-- Its entries are the unit vector's. -/
theorem unitOf_at (w : FVec Ideal S256 .f32) (d : Fin 256) : unitOf w (ix2 (0 : Fin 1) d) = Row.unit (fun d => w (ix1 d)) d := by
  unfold unitOf
  pointwise
  simp only [ofBits_eps]
  rfl

/-- At the loop's entry the anchors are the arguments' unit vectors. -/
theorem entry_anchors (a : Fin 3) (d : Fin 256) :
    (entryContents preI m c (Proc.devRef .tc main_v19_0) : FVec Ideal S3x256 .f32) (ix2 a d) = Row.unit ((inputs m c).A a) d := by
  simp only [entryContents, afterL_cons, afterL_nil]
  after_reads_simp
  simp only [id_eq]
  fin_cases a
  all_goals pointwise
  · show (upto (hostOps0_12 (F := Ideal)) _ 5 (Proc.devRef .tc main_v12) : FVec Ideal S1x256 .f32) _ = _
    after_reads_simp
    exact unitOf_at (m ((c : Thread nD τ).loc main_arg5)) d
  · show (upto (hostOps0_12 (F := Ideal)) _ 5 (Proc.devRef .tc main_v13) : FVec Ideal S1x256 .f32) _ = _
    after_reads_simp
    exact unitOf_at (m ((c : Thread nD τ).loc main_arg6)) d
  · show (upto (hostOps0_12 (F := Ideal)) _ 5 (Proc.devRef .tc main_v14) : FVec Ideal S1x256 .f32) _ = _
    after_reads_simp
    exact unitOf_at (m ((c : Thread nD τ).loc main_arg7)) d

/-- At the loop's entry the invariant holds of no trip. -/
theorem made_zero : RefStep.Made (entryContents preI m c) (inputs m c) 0 where
  anchors := entry_anchors m c
  str := entry_str m c
  W1 := entry_W1 m c
  b1 := entry_b1 m c
  W2 := entry_W2 m c
  b2 := entry_b2 m c
  ctr := ctr_entry m c
  rows i := funext fun d => entry_rows m c i d
  aligns l i a h := absurd h (Nat.not_lt_zero _)
  dives l i a h := absurd h (Nat.not_lt_zero _)
  tenses l i a h := absurd h (Nat.not_lt_zero _)

/-- After the loop it holds of six trips. -/
theorem made_six : RefStep.Made (STEP^[6] (entryContents preI m c)) (inputs m c) 6 :=
  (made_zero m c).iterate 6 le_rfl

/-- The first result: the rows after six layers. -/
theorem rows_final : (STEP^[6] (entryContents preI m c)) (Proc.devRef .tc main_v19_7)
    = (fun y => Spec.path (inputs m c) (y 0) 6 (y 1) : FVec Ideal S65536x256 .f32) := by
  funext y
  idx_vars y
  exact congrFun ((made_six m c).rows y0) y1

/-- The second: the alignments before every layer. -/
theorem align_final : (STEP^[6] (entryContents preI m c)) (Proc.devRef .tc main_v19_8)
    = (fun y => Spec.align (inputs m c) (y 0 : Fin 6) (y 1) (y 2) : FVec Ideal S6x65536x3 .f32) := by
  funext y
  idx_vars y
  exact (made_six m c).aligns y0 y1 y2 y0.isLt

/-- The third: the divergences. -/
theorem dive_final : (STEP^[6] (entryContents preI m c)) (Proc.devRef .tc main_v19_9)
    = (fun y => Spec.dive (inputs m c) (y 0 : Fin 6) (y 1) (y 2) : FVec Ideal S6x65536x3 .f32) := by
  funext y
  idx_vars y
  exact (made_six m c).dives y0 y1 y2 y0.isLt

/-- The fourth: the divergences' squares. -/
theorem tense_final : (STEP^[6] (entryContents preI m c)) (Proc.devRef .tc main_v19_10)
    = (fun y => Spec.tense (inputs m c) (y 0 : Fin 6) (y 1) (y 2) : FVec Ideal S6x65536x3 .f32) := by
  funext y
  idx_vars y
  exact (made_six m c).tenses y0 y1 y2 y0.isLt

end Cert.ReferenceIdeal.Reference

end
-- ==== Proof.Precondition.lean ====
/- The precondition: the anchors are real vectors, none shorter than the constant under the norms. -/
module

public import proofs.«01_k».proof.Defs
public import proofs.«01_k».proof.Proof.Inputs
public import Idealize.ShloMosaic.Lib.Pointwise
public import Idealize.ShloMosaic.Lib.IdealHost

@[expose] public section

set_option maxRecDepth 16384

noncomputable section

namespace Cert.Precondition

open Idealize.ShloMosaic Idealize.ShloMosaic.TcCoe Cert.Consts

/-- The norm the precondition measures is the norm of the row. -/
theorem norm_at [Cert.Pre_tame.Facts] (x : FVec Ideal Cert.Pre_tame.S256 .f32) :
    (Cert.Pre_tame.fn_norm (F := Ideal) x : FVec Ideal Cert.Pre_tame.S_ .f32) ix0 = Row.norm (fun d => x (ix1 d)) := by
  unfold Cert.Pre_tame.fn_norm
  pointwise
  rfl

/-- A row of finite norm at least the constant is a real vector of at least that length. -/
theorem real_long (w : Row.Vec) (hl : Row.norm w < ⊤) (hg : (eps : EReal) ≤ Row.norm w) :
    ∃ x : Fin 256 → ℝ, (w = fun d => (x d : EReal)) ∧ eps ≤ √(∑ d, x d ^ 2) := by
  rcases Row.real_or_inf w with ⟨x, rfl⟩ | h
  · refine ⟨x, rfl, ?_⟩
    rw [Row.norm_coe] at hg
    exact_mod_cast hg
  · exfalso
    unfold Row.norm at hl
    rw [Row.sq_top h] at hl
    exact absurd hl (by simp)

/-- The precondition's two comparisons at one anchor say that of it. -/
theorem row_of [Cert.Pre_tame.Facts] (x : FVec Ideal Cert.Pre_tame.S256 .f32)
    (hl : cmpf .olt (Cert.Pre_tame.fn_norm (F := Ideal) x) (constant Cert.Pre_tame.S_ .f32 0x7F800000#32) = fun _ => 1#1)
    (hg : cmpf .oge (Cert.Pre_tame.fn_norm (F := Ideal) x) (constant Cert.Pre_tame.S_ .f32 0x2B8CBCCC#32) = fun _ => 1#1) :
    ∃ v : Fin 256 → ℝ, ((fun d => x (ix1 d)) = fun d => (v d : EReal)) ∧ eps ≤ √(∑ d, v d ^ 2) := by
  have hl := congrFun hl ix0
  have hg := congrFun hg ix0
  pointwise at hl hg
  rw [norm_at, ofBits_inf] at hl
  rw [norm_at, ofBits_eps] at hg
  refine real_long _ ?_ ?_
  · by_contra h
    simp [h] at hl
  · by_contra h
    simp [h] at hg

/-- The precondition makes the anchors real and not too short, on every device. -/
theorem anchored [Cert.Pre_tame.Facts] (m : (ℓ : Loc Cert.KernelIdeal.nD Cert.KernelIdeal.τ Cert.KernelIdeal.sig) → Buf (Elt Ideal) ℓ)
    (h : Cert.Pre_KernelIdeal_tame m) (c : Dev Cert.KernelIdeal.nD) :
    ∃ v, Row.Anchored (Cert.KernelIdeal.Inputs.inputs m c).A v := by
  obtain ⟨h5, h6, h7, g5, g6, g7⟩ := h c
  obtain ⟨v5, e5, l5⟩ := row_of _ h5 g5
  obtain ⟨v6, e6, l6⟩ := row_of _ h6 g6
  obtain ⟨v7, e7, l7⟩ := row_of _ h7 g7
  refine ⟨![v5, v6, v7], fun a d => ?_, fun a => ?_⟩
  · fin_cases a
    · exact congrFun e5 d
    · exact congrFun e6 d
    · exact congrFun e7 d
  · fin_cases a
    · exact l5
    · exact l6
    · exact l7

end Cert.Precondition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.KernelRun
public import proofs.«01_k».proof.Proof.Reference
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section Reference

open Cert.ReferenceIdeal

/-- The reference runs, its arguments end unchanged, and no counter is left above zero: it has none. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_mono (Value.run m g) fun r hr =>
    ⟨fun c => (hr c).2.2.2.2, sem_eq_zero_of_no_sems (by decide) r.2⟩

end Reference

/-- Memories that agree on the arguments hold the same inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Reference.inputs m' c = Cert.KernelIdeal.Inputs.inputs m c := by
  obtain ⟨h0, h1, h2, h3, h4, h5, h6, h7⟩ := h
  have e : ∀ {H H' : Fin 65536 → Row.Vec} {W1 W1' b1 b1' W2 W2' b2 b2' A A'}, H = H' → W1 = W1' → b1 = b1' → W2 = W2' → b2 = b2' → A = A' →
      (⟨H, W1, b1, W2, b2, A⟩ : Spec.Inputs) = ⟨H', W1', b1', W2', b2', A'⟩ := by
    rintro _ _ _ _ _ _ _ _ _ _ _ _ rfl rfl rfl rfl rfl rfl
    rfl
  refine e (funext₂ fun i d => congrFun h0 (ix2 i d)) (funext₂ fun k j => congrFun h1 (ix2 k j)) (funext fun k => congrFun h2 (ix1 k))
    (funext₂ fun d k => congrFun h3 (ix2 d k)) (funext fun d => congrFun h4 (ix1 d)) (funext₂ fun a d => ?_)
  fin_cases a
  · exact congrFun h5 (ix1 d)
  · exact congrFun h6 (ix1 d)
  · exact congrFun h7 (ix1 d)

/-- The kernel's four results are the reference's, at anchors that are finite and not too short. -/
theorem algebraic [Cert.Pre_tame.Facts] : Cert.algebraic_KernelIdeal_ReferenceIdeal_pre_tame
    (hKernelIdeal := Cert.KernelIdeal.Gen.facts) (hReferenceIdeal := Cert.ReferenceIdeal.Gen.facts) := by
  pair_intro
  · exact Cert.KernelIdeal.KernelRun.run m g (Cert.Precondition.anchored m hpre)
  · refine θ_run_mono (Cert.ReferenceIdeal.Value.run m' g') fun r hr c => ?_
    have e := inputs_eq m m' c (hagree c)
    obtain ⟨r0, r1, r2, r3, rest⟩ := hr c
    refine ⟨r0.trans ?_, r1.trans ?_, r2.trans ?_, r3.trans ?_, rest⟩
    · rw [Cert.ReferenceIdeal.Reference.rows_final, e]
    · rw [Cert.ReferenceIdeal.Reference.align_final, e]
    · rw [Cert.ReferenceIdeal.Reference.dive_final, e]
    · rw [Cert.ReferenceIdeal.Reference.tense_final, e]

/-- Everything the certificate claims. -/
theorem claim : Cert.Claim :=
  ⟨Cert.Kernel.Gen.facts, Cert.KernelIdeal.Gen.facts, Cert.ReferenceIdeal.Gen.facts, Cert.Pre_tame.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    IdealRules.named_const.statement Cert.KernelIdeal.κ "neps_sq" .f32 0x179ABE15#32 _ rfl,
    algebraic⟩

end Cert.Proof

end
